-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid_rows_KernelIdeal [hPre_valid_rows_KernelIdeal : Cert.Pre_valid_rows_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_valid_rows_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_rows_ReferenceIdeal [hPre_valid_rows_ReferenceIdeal : Cert.Pre_valid_rows_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_rows_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_valid_rows_KernelIdeal [hKernelIdeal : Cert.KernelIdeal.Facts] [hPre_valid_rows_KernelIdeal : Cert.Pre_valid_rows_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid_rows_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_valid_rows_ReferenceIdeal [hReferenceIdeal : Cert.ReferenceIdeal.Facts] [hPre_valid_rows_ReferenceIdeal : Cert.Pre_valid_rows_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_rows_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_valid_rows_KernelIdeal [hKernelIdeal : Cert.KernelIdeal.Facts] [hReferenceIdeal : Cert.ReferenceIdeal.Facts] [hPre_valid_rows_KernelIdeal : Cert.Pre_valid_rows_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid_rows_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![128, 256, 512]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_valid_rows_KernelIdeal : Cert.Pre_valid_rows_KernelIdeal.Facts) (hPre_valid_rows_ReferenceIdeal : Cert.Pre_valid_rows_ReferenceIdeal.Facts),
    quiescent_Kernel (hKernel := hKernel)
    ∧ quiescent_KernelIdeal (hKernelIdeal := hKernelIdeal)
    ∧ quiescent_KernelIdeal_pre_valid_rows_KernelIdeal (hKernelIdeal := hKernelIdeal) (hPre_valid_rows_KernelIdeal := hPre_valid_rows_KernelIdeal)
    ∧ quiescent_ReferenceIdeal (hReferenceIdeal := hReferenceIdeal)
    ∧ quiescent_ReferenceIdeal_pre_valid_rows_ReferenceIdeal (hReferenceIdeal := hReferenceIdeal) (hPre_valid_rows_ReferenceIdeal := hPre_valid_rows_ReferenceIdeal)
    ∧ preserves_Kernel_KernelIdeal
    ∧ algebraic_KernelIdeal_ReferenceIdeal_pre_valid_rows_KernelIdeal (hKernelIdeal := hKernelIdeal) (hReferenceIdeal := hReferenceIdeal) (hPre_valid_rows_KernelIdeal := hPre_valid_rows_KernelIdeal)
-- ==== Pre_valid_rows_KernelIdeal.lean ====
abbrev S512x256 : Shape := ⟨2, ![512, 256]⟩
abbrev S256x128 : Shape := ⟨2, ![256, 128]⟩
abbrev S512x1 : Shape := ⟨2, ![512, 1]⟩
abbrev S4x256x512 : Shape := ⟨3, ![4, 256, 512]⟩
abbrev S256x512 : Shape := ⟨2, ![256, 512]⟩
abbrev S512x128 : Shape := ⟨2, ![512, 128]⟩
abbrev S_ : Shape := ⟨0, ![]⟩
abbrev S512 : Shape := ⟨1, ![512]⟩

class Facts : Prop where
  reducesTo_S512x128_S512_d1 : S512x128.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  dot_S512x256_S256x128_S512x128_1_0_0_1_n_n_wf : DotDims.WF S512x256 S256x128 S512x128 [1] [0] [0] [1] [] []

variable [Facts]

def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def fn {F : FTy → Type} [FloatOps F] (main_arg0 : FVec F S512x256 .f32) (main_arg1 : FVec F S256x128 .f32) (main_arg2 : IVec S512x1 32) (main_arg3 : FVec F S4x256x512 .f32) (main_arg4 : FVec F S256x512 .f32) : IVec S512x1 1 :=
  let main_v0 : FVec F S512x128 .f32 := (fun l r => Host.dotGeneral dot_S512x256_S256x128_S512x128_1_0_0_1_n_n none l r) main_arg0 main_arg1
  let main_cst : FVec F S_ .f32 := constant S_ .f32 0xFF800000#32
  let main_v1 : FVec F S512 .f32 := (fun x v => Host.reduce FloatOps.maximumf x v reducesTo_S512x128_S512_d1 h_S_) main_v0 main_cst
  let main_v2 : FVec F S512x1 .f32 := broadcastInDim S512x1 ![0] bcast_S512_S512x1_0 main_v1
  let main_c : IVec S_ 32 := constantI S_ 32 0#32
  let main_v3 : IVec S512x1 32 := broadcastInDim S512x1 ![] bcast_S_S512x1 main_c
  let main_v4 : IVec S512x1 1 := cmpi .sge main_arg2 main_v3
  let main_c_0 : IVec S_ 32 := constantI S_ 32 128#32
  let main_v5 : IVec S512x1 32 := broadcastInDim S512x1 ![] bcast_S_S512x1 main_c_0
  let main_v6 : IVec S512x1 1 := cmpi .slt main_arg2 main_v5
  let main_v7 : IVec S512x1 1 := andi main_v4 main_v6
  let main_v8 : FVec F S512x1 .f32 := Host.absf main_v2
  let main_cst_1 : FVec F S_ .f32 := constant S_ .f32 0x7F800000#32
  let main_v9 : FVec F S512x1 .f32 := broadcastInDim S512x1 ![] bcast_S_S512x1 main_cst_1
  let main_v10 : IVec S512x1 1 := cmpf .olt main_v8 main_v9
  let main_v11 : IVec S512x1 1 := andi main_v7 main_v10
  main_v11
-- ==== Pre_valid_rows_ReferenceIdeal.lean ====
abbrev S512x256 : Shape := ⟨2, ![512, 256]⟩
abbrev S256x128 : Shape := ⟨2, ![256, 128]⟩
abbrev S512x1 : Shape := ⟨2, ![512, 1]⟩
abbrev S128x256x512 : Shape := ⟨3, ![128, 256, 512]⟩
abbrev S256x512 : Shape := ⟨2, ![256, 512]⟩
abbrev S512x128 : Shape := ⟨2, ![512, 128]⟩
abbrev S_ : Shape := ⟨0, ![]⟩
abbrev S512 : Shape := ⟨1, ![512]⟩

class Facts : Prop where
  reducesTo_S512x128_S512_d1 : S512x128.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  dot_S512x256_S256x128_S512x128_1_0_0_1_n_n_wf : DotDims.WF S512x256 S256x128 S512x128 [1] [0] [0] [1] [] []

variable [Facts]

def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def fn {F : FTy → Type} [FloatOps F] (main_arg0 : FVec F S512x256 .f32) (main_arg1 : FVec F S256x128 .f32) (main_arg2 : IVec S512x1 32) (main_arg3 : FVec F S128x256x512 .f32) (main_arg4 : FVec F S256x512 .f32) : IVec S512x1 1 :=
  let main_v0 : FVec F S512x128 .f32 := (fun l r => Host.dotGeneral dot_S512x256_S256x128_S512x128_1_0_0_1_n_n none l r) main_arg0 main_arg1
  let main_cst : FVec F S_ .f32 := constant S_ .f32 0xFF800000#32
  let main_v1 : FVec F S512 .f32 := (fun x v => Host.reduce FloatOps.maximumf x v reducesTo_S512x128_S512_d1 h_S_) main_v0 main_cst
  let main_v2 : FVec F S512x1 .f32 := broadcastInDim S512x1 ![0] bcast_S512_S512x1_0 main_v1
  let main_c : IVec S_ 32 := constantI S_ 32 0#32
  let main_v3 : IVec S512x1 32 := broadcastInDim S512x1 ![] bcast_S_S512x1 main_c
  let main_v4 : IVec S512x1 1 := cmpi .sge main_arg2 main_v3
  let main_c_0 : IVec S_ 32 := constantI S_ 32 128#32
  let main_v5 : IVec S512x1 32 := broadcastInDim S512x1 ![] bcast_S_S512x1 main_c_0
  let main_v6 : IVec S512x1 1 := cmpi .slt main_arg2 main_v5
  let main_v7 : IVec S512x1 1 := andi main_v4 main_v6
  let main_v8 : FVec F S512x1 .f32 := Host.absf main_v2
  let main_cst_1 : FVec F S_ .f32 := constant S_ .f32 0x7F800000#32
  let main_v9 : FVec F S512x1 .f32 := broadcastInDim S512x1 ![] bcast_S_S512x1 main_cst_1
  let main_v10 : IVec S512x1 1 := cmpf .olt main_v8 main_v9
  let main_v11 : IVec S512x1 1 := andi main_v7 main_v10
  main_v11
-- ==== Kernel.lean ====
abbrev S512x256 : Shape := ⟨2, ![512, 256]⟩
abbrev S256x128 : Shape := ⟨2, ![256, 128]⟩
abbrev S512x1 : Shape := ⟨2, ![512, 1]⟩
abbrev S4x256x512 : Shape := ⟨3, ![4, 256, 512]⟩
abbrev S256x512 : Shape := ⟨2, ![256, 512]⟩
abbrev S512x512 : Shape := ⟨2, ![512, 512]⟩
abbrev S2x512x512 : Shape := ⟨3, ![2, 512, 512]⟩
abbrev S2 : Shape := ⟨1, ![2]⟩
abbrev S_ : Shape := ⟨0, ![]⟩
abbrev S512x128 : Shape := ⟨2, ![512, 128]⟩
abbrev S512 : Shape := ⟨1, ![512]⟩
abbrev S1x256x512 : Shape := ⟨3, ![1, 256, 512]⟩
abbrev S1x512x512 : Shape := ⟨3, ![1, 512, 512]⟩
abbrev S1 : Shape := ⟨1, ![1]⟩

abbrev nBuf : Space → Nat
  | .hbm => 6
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S256x128, .f32⟩
  | .hbm, ⟨2, _⟩ => ⟨S512x1, .i32⟩
  | .hbm, ⟨3, _⟩ => ⟨S4x256x512, .f32⟩
  | .hbm, ⟨4, _⟩ => ⟨S256x512, .f32⟩
  | .hbm, ⟨5, _⟩ => ⟨S512x512, .f32⟩
  | .local _ .vmem, ⟨0, _⟩ => ⟨S512x256, .f32⟩
  | .local _ .vmem, ⟨1, _⟩ => ⟨S256x128, .f32⟩
  | .local _ .vmem, ⟨2, _⟩ => ⟨S512x1, .i32⟩
  | .local _ .vmem, ⟨3, _⟩ => ⟨S4x256x512, .f32⟩
  | .local _ .vmem, ⟨4, _⟩ => ⟨S256x512, .f32⟩
  | .local _ .vmem, ⟨5, _⟩ => ⟨S512x512, .f32⟩
  | .local _ .vmem, ⟨6, _⟩ => ⟨S2x512x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_42 : BitVec 32 := 1#32
  let v89 : BitVec 32 := Scalar.muli v6 c1_i32_42
  let v90 : BitVec 32 := Scalar.addi c0_i32_43 v89
  v90.toNat
def k0_dev2 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_49 : BitVec 32 := 1#32
  let v91 : BitVec 32 := Scalar.muli v4 c1_i32_49
  let v92 : BitVec 32 := Scalar.addi c0_i32_50 v91
  v92.toNat
def k0_dev3 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_82 : BitVec 32 := 1#32
  let v121 : BitVec 32 := Scalar.muli v6 c1_i32_82
  let v122 : BitVec 32 := Scalar.addi c0_i32_83 v121
  v122.toNat
def k0_dev4 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_90 : BitVec 32 := 1#32
  let v123 : BitVec 32 := Scalar.muli v4 c1_i32_90
  let v124 : BitVec 32 := Scalar.addi c0_i32_91 v123
  v124.toNat
def k0_dev5 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_123 : BitVec 32 := 1#32
  let v153 : BitVec 32 := Scalar.muli v6 c1_i32_123
  let v154 : BitVec 32 := Scalar.addi c0_i32_124 v153
  v154.toNat
def k0_dev6 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_131 : BitVec 32 := 1#32
  let v155 : BitVec 32 := Scalar.muli v4 c1_i32_131
  let v156 : BitVec 32 := Scalar.addi c0_i32_132 v155
  v156.toNat
def k0_dev7 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_164 : BitVec 32 := 1#32
  let v185 : BitVec 32 := Scalar.muli v6 c1_i32_164
  let v186 : BitVec 32 := Scalar.addi c0_i32_165 v185
  v186.toNat
def k0_dev8 (d0 : Dev nD) : Nat :=
  let c0_i32_173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_172 : BitVec 32 := 1#32
  let v187 : BitVec 32 := Scalar.muli v4 c1_i32_172
  let v188 : BitVec 32 := Scalar.addi c0_i32_173 v187
  v188.toNat
def k0_dev9 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_205 : BitVec 32 := 1#32
  let v217 : BitVec 32 := Scalar.muli v6 c1_i32_205
  let v218 : BitVec 32 := Scalar.addi c0_i32_206 v217
  v218.toNat
def k0_dev10 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_213 : BitVec 32 := 1#32
  let v219 : BitVec 32 := Scalar.muli v4 c1_i32_213
  let v220 : BitVec 32 := Scalar.addi c0_i32_214 v219
  v220.toNat
def k0_dev11 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_246 : BitVec 32 := 1#32
  let v249 : BitVec 32 := Scalar.muli v6 c1_i32_246
  let v250 : BitVec 32 := Scalar.addi c0_i32_247 v249
  v250.toNat
def k0_dev12 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_254 : BitVec 32 := 1#32
  let v251 : BitVec 32 := Scalar.muli v4 c1_i32_254
  let v252 : BitVec 32 := Scalar.addi c0_i32_255 v251
  v252.toNat
def k0_dev13 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_287 : BitVec 32 := 1#32
  let v281 : BitVec 32 := Scalar.muli v6 c1_i32_287
  let v282 : BitVec 32 := Scalar.addi c0_i32_288 v281
  v282.toNat
def k0_dev14 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_295 : BitVec 32 := 1#32
  let v283 : BitVec 32 := Scalar.muli v4 c1_i32_295
  let v284 : BitVec 32 := Scalar.addi c0_i32_296 v283
  v284.toNat
def k0_dev15 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_328 : BitVec 32 := 1#32
  let v313 : BitVec 32 := Scalar.muli v6 c1_i32_328
  let v314 : BitVec 32 := Scalar.addi c0_i32_329 v313
  v314.toNat
def k0_dev16 (d0 : Dev nD) : Nat :=
  let c0_i32_337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_336 : BitVec 32 := 1#32
  let v315 : BitVec 32 := Scalar.muli v4 c1_i32_336
  let v316 : BitVec 32 := Scalar.addi c0_i32_337 v315
  v316.toNat
def k0_dev17 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_369 : BitVec 32 := 1#32
  let v345 : BitVec 32 := Scalar.muli v6 c1_i32_369
  let v346 : BitVec 32 := Scalar.addi c0_i32_370 v345
  v346.toNat
def k0_dev18 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_377 : BitVec 32 := 1#32
  let v347 : BitVec 32 := Scalar.muli v4 c1_i32_377
  let v348 : BitVec 32 := Scalar.addi c0_i32_378 v347
  v348.toNat
def k0_dev19 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_410 : BitVec 32 := 1#32
  let v377 : BitVec 32 := Scalar.muli v6 c1_i32_410
  let v378 : BitVec 32 := Scalar.addi c0_i32_411 v377
  v378.toNat
def k0_dev20 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_418 : BitVec 32 := 1#32
  let v379 : BitVec 32 := Scalar.muli v4 c1_i32_418
  let v380 : BitVec 32 := Scalar.addi c0_i32_419 v379
  v380.toNat
def k0_dev21 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_451 : BitVec 32 := 1#32
  let v409 : BitVec 32 := Scalar.muli v6 c1_i32_451
  let v410 : BitVec 32 := Scalar.addi c0_i32_452 v409
  v410.toNat
def k0_dev22 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_459 : BitVec 32 := 1#32
  let v411 : BitVec 32 := Scalar.muli v4 c1_i32_459
  let v412 : BitVec 32 := Scalar.addi c0_i32_460 v411
  v412.toNat
def k0_dev23 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_492 : BitVec 32 := 1#32
  let v441 : BitVec 32 := Scalar.muli v6 c1_i32_492
  let v442 : BitVec 32 := Scalar.addi c0_i32_493 v441
  v442.toNat
def k0_dev24 (d0 : Dev nD) : Nat :=
  let c0_i32_501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_500 : BitVec 32 := 1#32
  let v443 : BitVec 32 := Scalar.muli v4 c1_i32_500
  let v444 : BitVec 32 := Scalar.addi c0_i32_501 v443
  v444.toNat
def k0_dev25 (d0 : Dev nD) : Nat :=
  let c0_i32_534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_533 : BitVec 32 := 1#32
  let v473 : BitVec 32 := Scalar.muli v6 c1_i32_533
  let v474 : BitVec 32 := Scalar.addi c0_i32_534 v473
  v474.toNat
def k0_dev26 (d0 : Dev nD) : Nat :=
  let c0_i32_542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_541 : BitVec 32 := 1#32
  let v475 : BitVec 32 := Scalar.muli v4 c1_i32_541
  let v476 : BitVec 32 := Scalar.addi c0_i32_542 v475
  v476.toNat
def k0_dev27 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_574 : BitVec 32 := 1#32
  let v505 : BitVec 32 := Scalar.muli v6 c1_i32_574
  let v506 : BitVec 32 := Scalar.addi c0_i32_575 v505
  v506.toNat
def k0_dev28 (d0 : Dev nD) : Nat :=
  let c0_i32_583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_582 : BitVec 32 := 1#32
  let v507 : BitVec 32 := Scalar.muli v4 c1_i32_582
  let v508 : BitVec 32 := Scalar.addi c0_i32_583 v507
  v508.toNat
def k0_dev29 (d0 : Dev nD) : Nat :=
  let c0_i32_616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_615 : BitVec 32 := 1#32
  let v537 : BitVec 32 := Scalar.muli v6 c1_i32_615
  let v538 : BitVec 32 := Scalar.addi c0_i32_616 v537
  v538.toNat
def k0_dev30 (d0 : Dev nD) : Nat :=
  let c0_i32_624 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_623 : BitVec 32 := 1#32
  let v539 : BitVec 32 := Scalar.muli v4 c1_i32_623
  let v540 : BitVec 32 := Scalar.addi c0_i32_624 v539
  v540.toNat
def k0_dev31 (d0 : Dev nD) : Nat :=
  let c0_i32_657 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_656 : BitVec 32 := 1#32
  let v569 : BitVec 32 := Scalar.muli v6 c1_i32_656
  let v570 : BitVec 32 := Scalar.addi c0_i32_657 v569
  v570.toNat
def k0_dev32 (d0 : Dev nD) : Nat :=
  let c0_i32_665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_664 : BitVec 32 := 1#32
  let v571 : BitVec 32 := Scalar.muli v4 c1_i32_664
  let v572 : BitVec 32 := Scalar.addi c0_i32_665 v571
  v572.toNat
def k0_dev33 (d0 : Dev nD) : Nat :=
  let c0_i32_698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_697 : BitVec 32 := 1#32
  let v601 : BitVec 32 := Scalar.muli v6 c1_i32_697
  let v602 : BitVec 32 := Scalar.addi c0_i32_698 v601
  v602.toNat
def k0_dev34 (d0 : Dev nD) : Nat :=
  let c0_i32_706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_705 : BitVec 32 := 1#32
  let v603 : BitVec 32 := Scalar.muli v4 c1_i32_705
  let v604 : BitVec 32 := Scalar.addi c0_i32_706 v603
  v604.toNat
def k0_dev35 (d0 : Dev nD) : Nat :=
  let c0_i32_739 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_738 : BitVec 32 := 1#32
  let v633 : BitVec 32 := Scalar.muli v6 c1_i32_738
  let v634 : BitVec 32 := Scalar.addi c0_i32_739 v633
  v634.toNat
def k0_dev36 (d0 : Dev nD) : Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_746 : BitVec 32 := 1#32
  let v635 : BitVec 32 := Scalar.muli v4 c1_i32_746
  let v636 : BitVec 32 := Scalar.addi c0_i32_747 v635
  v636.toNat
def k0_dev37 (d0 : Dev nD) : Nat :=
  let c0_i32_780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_779 : BitVec 32 := 1#32
  let v665 : BitVec 32 := Scalar.muli v6 c1_i32_779
  let v666 : BitVec 32 := Scalar.addi c0_i32_780 v665
  v666.toNat
def k0_dev38 (d0 : Dev nD) : Nat :=
  let c0_i32_788 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_787 : BitVec 32 := 1#32
  let v667 : BitVec 32 := Scalar.muli v4 c1_i32_787
  let v668 : BitVec 32 := Scalar.addi c0_i32_788 v667
  v668.toNat
def k0_dev39 (d0 : Dev nD) : Nat :=
  let c0_i32_821 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_820 : BitVec 32 := 1#32
  let v697 : BitVec 32 := Scalar.muli v6 c1_i32_820
  let v698 : BitVec 32 := Scalar.addi c0_i32_821 v697
  v698.toNat
def k0_dev40 (d0 : Dev nD) : Nat :=
  let c0_i32_829 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_828 : BitVec 32 := 1#32
  let v699 : BitVec 32 := Scalar.muli v4 c1_i32_828
  let v700 : BitVec 32 := Scalar.addi c0_i32_829 v699
  v700.toNat
def k0_dev41 (d0 : Dev nD) : Nat :=
  let c0_i32_862 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_861 : BitVec 32 := 1#32
  let v729 : BitVec 32 := Scalar.muli v6 c1_i32_861
  let v730 : BitVec 32 := Scalar.addi c0_i32_862 v729
  v730.toNat
def k0_dev42 (d0 : Dev nD) : Nat :=
  let c0_i32_870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_869 : BitVec 32 := 1#32
  let v731 : BitVec 32 := Scalar.muli v4 c1_i32_869
  let v732 : BitVec 32 := Scalar.addi c0_i32_870 v731
  v732.toNat
def k0_dev43 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_902 : BitVec 32 := 1#32
  let v761 : BitVec 32 := Scalar.muli v6 c1_i32_902
  let v762 : BitVec 32 := Scalar.addi c0_i32_903 v761
  v762.toNat
def k0_dev44 (d0 : Dev nD) : Nat :=
  let c0_i32_911 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_910 : BitVec 32 := 1#32
  let v763 : BitVec 32 := Scalar.muli v4 c1_i32_910
  let v764 : BitVec 32 := Scalar.addi c0_i32_911 v763
  v764.toNat
def k0_dev45 (d0 : Dev nD) : Nat :=
  let c0_i32_944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_943 : BitVec 32 := 1#32
  let v793 : BitVec 32 := Scalar.muli v6 c1_i32_943
  let v794 : BitVec 32 := Scalar.addi c0_i32_944 v793
  v794.toNat
def k0_dev46 (d0 : Dev nD) : Nat :=
  let c0_i32_952 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_951 : BitVec 32 := 1#32
  let v795 : BitVec 32 := Scalar.muli v4 c1_i32_951
  let v796 : BitVec 32 := Scalar.addi c0_i32_952 v795
  v796.toNat
def k0_dev47 (d0 : Dev nD) : Nat :=
  let c0_i32_985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_984 : BitVec 32 := 1#32
  let v825 : BitVec 32 := Scalar.muli v6 c1_i32_984
  let v826 : BitVec 32 := Scalar.addi c0_i32_985 v825
  v826.toNat
def k0_dev48 (d0 : Dev nD) : Nat :=
  let c0_i32_993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_992 : BitVec 32 := 1#32
  let v827 : BitVec 32 := Scalar.muli v4 c1_i32_992
  let v828 : BitVec 32 := Scalar.addi c0_i32_993 v827
  v828.toNat
def k0_dev49 (d0 : Dev nD) : Nat :=
  let c0_i32_1026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_1025 : BitVec 32 := 1#32
  let v857 : BitVec 32 := Scalar.muli v6 c1_i32_1025
  let v858 : BitVec 32 := Scalar.addi c0_i32_1026 v857
  v858.toNat
def k0_dev50 (d0 : Dev nD) : Nat :=
  let c0_i32_1034 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1033 : BitVec 32 := 1#32
  let v859 : BitVec 32 := Scalar.muli v4 c1_i32_1033
  let v860 : BitVec 32 := Scalar.addi c0_i32_1034 v859
  v860.toNat
def k0_dev51 (d0 : Dev nD) : Nat :=
  let c0_i32_1067 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_1066 : BitVec 32 := 1#32
  let v889 : BitVec 32 := Scalar.muli v6 c1_i32_1066
  let v890 : BitVec 32 := Scalar.addi c0_i32_1067 v889
  v890.toNat
def k0_dev52 (d0 : Dev nD) : Nat :=
  let c0_i32_1075 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1074 : BitVec 32 := 1#32
  let v891 : BitVec 32 := Scalar.muli v4 c1_i32_1074
  let v892 : BitVec 32 := Scalar.addi c0_i32_1075 v891
  v892.toNat
def k0_dev53 (d0 : Dev nD) : Nat :=
  let c0_i32_1108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_1107 : BitVec 32 := 1#32
  let v921 : BitVec 32 := Scalar.muli v6 c1_i32_1107
  let v922 : BitVec 32 := Scalar.addi c0_i32_1108 v921
  v922.toNat
def k0_dev54 (d0 : Dev nD) : Nat :=
  let c0_i32_1116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1115 : BitVec 32 := 1#32
  let v923 : BitVec 32 := Scalar.muli v4 c1_i32_1115
  let v924 : BitVec 32 := Scalar.addi c0_i32_1116 v923
  v924.toNat
def k0_dev55 (d0 : Dev nD) : Nat :=
  let c0_i32_1149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_1148 : BitVec 32 := 1#32
  let v953 : BitVec 32 := Scalar.muli v6 c1_i32_1148
  let v954 : BitVec 32 := Scalar.addi c0_i32_1149 v953
  v954.toNat
def k0_dev56 (d0 : Dev nD) : Nat :=
  let c0_i32_1157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1156 : BitVec 32 := 1#32
  let v955 : BitVec 32 := Scalar.muli v4 c1_i32_1156
  let v956 : BitVec 32 := Scalar.addi c0_i32_1157 v955
  v956.toNat
def k0_dev57 (d0 : Dev nD) : Nat :=
  let c0_i32_1190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_1189 : BitVec 32 := 1#32
  let v985 : BitVec 32 := Scalar.muli v6 c1_i32_1189
  let v986 : BitVec 32 := Scalar.addi c0_i32_1190 v985
  v986.toNat
def k0_dev58 (d0 : Dev nD) : Nat :=
  let c0_i32_1198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1197 : BitVec 32 := 1#32
  let v987 : BitVec 32 := Scalar.muli v4 c1_i32_1197
  let v988 : BitVec 32 := Scalar.addi c0_i32_1198 v987
  v988.toNat
def k0_dev59 (d0 : Dev nD) : Nat :=
  let c0_i32_1231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_1230 : BitVec 32 := 1#32
  let v1017 : BitVec 32 := Scalar.muli v6 c1_i32_1230
  let v1018 : BitVec 32 := Scalar.addi c0_i32_1231 v1017
  v1018.toNat
def k0_dev60 (d0 : Dev nD) : Nat :=
  let c0_i32_1239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1238 : BitVec 32 := 1#32
  let v1019 : BitVec 32 := Scalar.muli v4 c1_i32_1238
  let v1020 : BitVec 32 := Scalar.addi c0_i32_1239 v1019
  v1020.toNat
def k0_dev61 (d0 : Dev nD) : Nat :=
  let c0_i32_1272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v5 : BitVec 32 := Scalar.addi v2 c31_i32
  let c32_i32_2 : BitVec 32 := 32#32
  let v6 : BitVec 32 := Scalar.remsi v5 c32_i32_2
  let c1_i32_1271 : BitVec 32 := 1#32
  let v1049 : BitVec 32 := Scalar.muli v6 c1_i32_1271
  let v1050 : BitVec 32 := Scalar.addi c0_i32_1272 v1049
  v1050.toNat
def k0_dev62 (d0 : Dev nD) : Nat :=
  let c0_i32_1280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let v4 : BitVec 32 := Scalar.remsi v3 c32_i32_1
  let c1_i32_1279 : BitVec 32 := 1#32
  let v1051 : BitVec 32 := Scalar.muli v4 c1_i32_1279
  let v1052 : BitVec 32 := Scalar.addi c0_i32_1280 v1051
  v1052.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x128 : Shape := ⟨2, ![256, 128]⟩
abbrev S512x1 : Shape := ⟨2, ![512, 1]⟩
abbrev S128x256x512 : Shape := ⟨3, ![128, 256, 512]⟩
abbrev S256x512 : Shape := ⟨2, ![256, 512]⟩
abbrev S512x128 : Shape := ⟨2, ![512, 128]⟩
abbrev S_ : Shape := ⟨0, ![]⟩
abbrev S512 : Shape := ⟨1, ![512]⟩
abbrev S512x512 : Shape := ⟨2, ![512, 512]⟩
abbrev S512x1x1 : Shape := ⟨3, ![512, 1, 1]⟩
abbrev S1 : Shape := ⟨1, ![1]⟩
abbrev S1x1x1 : Shape := ⟨3, ![1, 1, 1]⟩
abbrev S512x256x512 : Shape := ⟨3, ![512, 256, 512]⟩

abbrev nBuf : Space → Nat
  | .hbm => 54
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x128, .f32⟩
  | .hbm, ⟨2, _⟩ => ⟨S512x1, .i32⟩
  | .hbm, ⟨3, _⟩ => ⟨S128x256x512, .f32⟩
  | .hbm, ⟨4, _⟩ => ⟨S256x512, .f32⟩
  | .hbm, ⟨5, _⟩ => ⟨S512x128, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x128, .f32⟩
  | .hbm, ⟨10, _⟩ => ⟨S512x128, .f32⟩
  | .hbm, ⟨11, _⟩ => ⟨S512x128, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x128, .f32⟩
  | .hbm, ⟨16, _⟩ => ⟨S512x128, .f32⟩
  | .hbm, ⟨17, _⟩ => ⟨S512x512, .f32⟩
  | .hbm, ⟨18, _⟩ => ⟨S_, .i32⟩
  | .hbm, ⟨19, _⟩ => ⟨S512x1, .i32⟩
  | .hbm, ⟨20, _⟩ => ⟨S512x1, .i1⟩
  | .hbm, ⟨21, _⟩ => ⟨S_, .i32⟩
  | .hbm, ⟨22, _⟩ => ⟨S512x1, .i32⟩
  | .hbm, ⟨23, _⟩ => ⟨S512x1, .i32⟩
  | .hbm, ⟨24, _⟩ => ⟨S512x1, .i32⟩
  | .hbm, ⟨25, _⟩ => ⟨S512x1x1, .i32⟩
  | .hbm, ⟨26, _⟩ => ⟨S1, .i32⟩
  | .hbm, ⟨27, _⟩ => ⟨S_, .i32⟩
  | .hbm, ⟨28, _⟩ => ⟨S512x1x1, .i32⟩
  | .hbm, ⟨29, _⟩ => ⟨S512x1x1, .i1⟩
  | .hbm, ⟨30, _⟩ => ⟨S1x1x1, .i32⟩
  | .hbm, ⟨31, _⟩ => ⟨S512x1x1, .i32⟩
  | .hbm, ⟨32, _⟩ => ⟨S512x1x1, .i1⟩
  | .hbm, ⟨33, _⟩ => ⟨S512x1x1, .i1⟩
  | .hbm, ⟨34, _⟩ => ⟨S_, .i1⟩
  | .hbm, ⟨35, _⟩ => ⟨S512x1, .i1⟩
  | .hbm, ⟨36, _⟩ => ⟨S512x1, .f32⟩
  | .hbm, ⟨37, _⟩ => ⟨S_, .f32⟩
  | .hbm, ⟨38, _⟩ => ⟨S512x1, .f32⟩
  | .hbm, ⟨39, _⟩ => ⟨S512x1, .f32⟩
  | .hbm, ⟨40, _⟩ => ⟨S512, .i32⟩
  | .hbm, ⟨41, _⟩ => ⟨S_, .i32⟩
  | .hbm, ⟨42, _⟩ => ⟨S512, .i32⟩
  | .hbm, ⟨43, _⟩ => ⟨S512, .i1⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S512x1, .i32⟩
  | .hbm, ⟨49, _⟩ => ⟨S512x256x512, .f32⟩
  | .hbm, ⟨50, _⟩ => ⟨S512x512, .f32⟩
  | .hbm, ⟨51, _⟩ => ⟨S512x512, .f32⟩
  | .hbm, ⟨52, _⟩ => ⟨S512x512, .f32⟩
  | .hbm, ⟨53, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v11 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩

abbrev nD : Nat := 1
abbrev τ : Topo := Topo.v7x

variable {F : FTy → Type} [FloatOps F]
-- ==== Proof.Ideal.Hops.lean ====
/- The kernel body written as a prefix (the device number, the loads, this device's partial sum, the first stores) and
   thirty-one hops of one and the same shape. The two slots of the exchange buffer, and the two cells of each pair of
   transfer semaphores, are indexed by a number below two; a hop takes the slot it sends from and the slot it fills. -/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Ring

open Cert.KernelIdeal Cert.KernelIdeal.Gen
open Idealize.ShloMosaic Idealize.ShloMosaic.TcCoe
open Idealize.SL Idealize.SL.Sem

variable {F : FTy → Type} [FloatOps F]

/-! ## The buffers and the semaphores, by slot -/

/-- The result's staging buffer, whole. -/
abbrev outM : Memref sig .tc .vmem S512x512 .f32 := Memref.whole cc0_stg5_0
/-- The exchange buffer of two slots, whole. -/
abbrev comM : Memref sig .tc .vmem S2x512x512 .f32 := Memref.whole cc0_scratch0

/-- One slot lies inside the exchange buffer. -/
theorem slot_inb (s : Fin 2) : ∀ a, (![s.val, 0, 0] : Fin 3 → Nat) a + S1x512x512.size a ≤ S2x512x512.size a := by
  revert s; decide
/-- One semaphore lies inside its pair. -/
theorem sem_inb (s : Fin 2) : ∀ a, (![s.val] : Fin 1 → Nat) a + S1.size a ≤ S2.size a := by
  revert s; decide

/-- Slot `s` as a rectangle of the exchange buffer. -/
abbrev slotR (s : Fin 2) : Rect S2x512x512 := Rect.unit (s := S2x512x512) ![s.val, 0, 0] S1x512x512.size (slot_inb s)
/-- Slot `s` as a matrix. -/
abbrev slotM (s : Fin 2) : Memref sig .tc .vmem S512x512 .f32 :=
  (comM.slice (slotR s) (fun _ => rfl)).squeeze S512x512 squeezes_S1x512x512_S512x512
/-- The whole of the result's staging buffer as a rectangle. -/
abbrev outR : Rect S512x512 := Rect.unit (s := S512x512) ![0, 0] S512x512.size inb_S512x512_S512x512_0_0

/-- The semaphore counting the read-out of a transfer from slot `s`. -/
abbrev sendS (s : Fin 2) : DmaSem sig :=
  (((cc0_scratch1 : DmaSems sig S2).slice (Rect.unit (s := S2) ![s.val] S1.size (sem_inb s))).squeeze S_ squeezes_S1_S_).sem
/-- The semaphore counting the landing of a transfer in slot `s`. -/
abbrev recvS (s : Fin 2) : DmaSem sig :=
  (((cc0_scratch2 : DmaSems sig S2).slice (Rect.unit (s := S2) ![s.val] S1.size (sem_inb s))).squeeze S_ squeezes_S1_S_).sem
/-- The semaphore by which the right neighbour says that its slot is free. -/
abbrev readyS : Sem sig := (SemArray.scalar (sig.barrier 0 rfl) : Sems sig S_).sem

/-! ## One hop, and the ring of hops -/

/-- One hop of device `d`: tell the left neighbour that slot `r` is free, wait for the right neighbour to say the same,
    send slot `s` to slot `r` of the right neighbour, wait for both ends, and add what has landed to the result. -/
def hop (s r : Fin 2) (d : Dev nD) : Prog (TpuEff nD τ sig (Elt F) Λ₀ .tc) PUnit := do
  semSignalWord (⟨k0_dev1 d, k0_dev1_lt d⟩ : Dev nD) readyS 1#32
  semWaitWord readyS 1#32
  Prog.lift (.enqueueDma (slotM s) (.remote (Dev.tc (⟨k0_dev2 d, k0_dev2_lt d⟩ : Dev nD)) (slotM r) (.dma (sendS s))) (.dma (recvS r))
    ((View.wordExact_bits rfl).reshape _ _) ((View.wordExact_bits rfl).reshape _ _) ⟨⟨rfl, Or.inl rfl⟩, trivial⟩)
  Prog.lift (.waitDma2 (sendS s) (slotM r) (slotM s) ((View.wordExact_bits rfl).reshape _ _) ((View.wordExact_bits rfl).reshape _ _))
  Prog.lift (.waitDma2 (recvS r) (slotM s) (slotM r) ((View.wordExact_bits rfl).reshape _ _) ((View.wordExact_bits rfl).reshape _ _))
  let a : Vec F S512x512 .f32 ← Prog.lift (.load outM outR.toLoadRect (View.loadsAt_vmem h_S512x512))
  let b : Vec F S1x512x512 .f32 ← Prog.lift (.load comM (slotR r).toLoadRect (View.loadsAt_vmem h_S1x512x512))
  let _ : Vec F S512x512 .f32 ← Prog.lift (.load outM outR.toLoadRect (View.loadsAt_vmem h_S512x512))
  Prog.lift (.store outM outR (k0_pay1 a b) Finset.univ (View.stores_vmem_bits_univ h_S512x512 rfl) (.inl rfl))

/-- `n` hops, the two slots changing places from one to the next. -/
def hops : Nat → Fin 2 → Fin 2 → Dev nD → Prog (TpuEff nD τ sig (Elt F) Λ₀ .tc) PUnit
  | 0, _, _, _ => pure ⟨⟩
  | n + 1, s, r, d => do hop s r d; hops n r s d

/-- What comes before the first hop, up to the partial sum: the device number and the five operands read. -/
def prefixed : Prog (TpuEff nD τ sig (Elt F) Λ₀ .tc) PUnit := do
  let d : Dev nD ← Prog.lift .deviceId
  let v2 : BitVec 32 := Scalar.remsi (Scalar.divsi (Dev.word d) 1#32) 32#32
  let x : Vec F S512x256 .f32 ← Prog.lift (.load (Memref.whole cc0_stg0_0) (Rect.unit (s := S512x256) ![0, 0] S512x256.size inb_S512x256_S512x256_0_0).toLoadRect (View.loadsAt_vmem h_S512x256))
  let rw : Vec F S256x128 .f32 ← Prog.lift (.load (Memref.whole cc0_stg1_0) (Rect.unit (s := S256x128) ![0, 0] S256x128.size inb_S256x128_S256x128_0_0).toLoadRect (View.loadsAt_vmem h_S256x128))
  let ix : Vec F S512x1 .i32 ← Prog.lift (.load (Memref.whole cc0_stg2_0) (Rect.unit (s := S512x1) ![0, 0] S512x1.size inb_S512x1_S512x1_0_0).toLoadRect (View.loadsAt_vmem h_S512x1))
  let w0 : Vec F S1x256x512 .f32 ← Prog.lift (.load (Memref.whole cc0_stg3_0) (Rect.unit (s := S4x256x512) ![0, 0, 0] S1x256x512.size inb_S4x256x512_S1x256x512_0_0_0).toLoadRect (View.loadsAt_vmem h_S1x256x512))
  let w1 : Vec F S1x256x512 .f32 ← Prog.lift (.load (Memref.whole cc0_stg3_0) (Rect.unit (s := S4x256x512) ![1, 0, 0] S1x256x512.size inb_S4x256x512_S1x256x512_1_0_0).toLoadRect (View.loadsAt_vmem h_S1x256x512))
  let w2 : Vec F S1x256x512 .f32 ← Prog.lift (.load (Memref.whole cc0_stg3_0) (Rect.unit (s := S4x256x512) ![2, 0, 0] S1x256x512.size inb_S4x256x512_S1x256x512_2_0_0).toLoadRect (View.loadsAt_vmem h_S1x256x512))
  let w3 : Vec F S1x256x512 .f32 ← Prog.lift (.load (Memref.whole cc0_stg3_0) (Rect.unit (s := S4x256x512) ![3, 0, 0] S1x256x512.size inb_S4x256x512_S1x256x512_3_0_0).toLoadRect (View.loadsAt_vmem h_S1x256x512))
  let sw : Vec F S256x512 .f32 ← Prog.lift (.load (Memref.whole cc0_stg4_0) (Rect.unit (s := S256x512) ![0, 0] S256x512.size inb_S256x512_S256x512_0_0).toLoadRect (View.loadsAt_vmem h_S256x512))
  let _ : Vec F S512x512 .f32 ← Prog.lift (.load outM outR.toLoadRect (View.loadsAt_vmem h_S512x512))
  let v68 : FVec F S512x512 .f32 := k0_pay7 v2 (k0_pay2 x) (k0_pay3 ix) (k0_pay4 x rw ix) k0_pay5 (k0_pay6 d x rw ix) w0 w1 w2
  let v76 : FVec F S512x256 .f32 := k0_pay8 v2 (k0_pay2 x) (k0_pay3 ix) (k0_pay4 x rw ix)
  Prog.lift (.store outM outR (k0_pay10 (k0_pay2 x) v68 v76 w3 sw) Finset.univ (View.stores_vmem_bits_univ h_S512x512 rfl) (.inl rfl))
  let _ : Vec F S1x512x512 .f32 ← Prog.lift (.load comM (slotR 0).toLoadRect (View.loadsAt_vmem h_S1x512x512))
  Prog.lift (.store comM (slotR 0) (k0_pay11 v68 v76 w3) Finset.univ (View.stores_vmem_bits_univ h_S1x512x512 rfl) (.inl rfl))
  hops 31 0 1 d

set_option maxRecDepth 65536 in
/-- The printed body, on the buffers the launch calls it with, is the prefix followed by the thirty-one hops. -/
theorem body_eq : cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) cc0_scratch1 cc0_scratch2 = prefixed (F := F) := by
  chain_rfl

end Cert.KernelIdeal.Ring

end
-- ==== Proof.Ideal.Protocol.lean ====
/- The protocol of the ring, written as a schedule of rounds, one round of a cell per hop that uses it.

   Hop `h` sends from slot `h % 2` to slot `(h + 1) % 2` of the right neighbour. It uses
   - round `h` of the `ready` cell: the right neighbour says that its slot `(h + 1) % 2` is free, and hands that slot over;
   - round `h / 2` of the `send` cell of slot `h % 2`: the device's own transfer has been read out, the slot comes back;
   - round `h / 2` of the `recv` cell of slot `(h + 1) % 2`: the left neighbour's transfer has landed; the slot comes back
     holding the partial sum of the device `h + 1` places to the left.
   A device waits for `ready` below everything it still owes, and so on up the hops: level `2 h + 1` for `ready`,
   `2 h + 2` for `recv`. -/
module

public import proofs.«01_k».proof.Proof.Ideal.Hops
public import Idealize.ShloMosaic.Lib.Pipeline.Launch
public import Idealize.ShloMosaic.Lib.Pipeline.Kit
public import Idealize.ShloMosaic.Lib.Tactic
public import Mathlib.Algebra.BigOperators.Intervals

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

/-- The pipeline's rounds beside the ring's; the ring's cells have one duty per round. -/
abbrev UU : Type := UR sig nD τ × URounds (GSem nD τ sig) Unit

local notation "𝕄" => MT nD τ sig ℕ (Elt F) ℕ UU ℕ

abbrev EP : Emb (UR sig nD τ) (MT nD τ sig ℕ (Elt F) ℕ UU ℕ) := embL
abbrev ER : Emb (URounds (GSem nD τ sig) Unit) (MT nD τ sig ℕ (Elt F) ℕ UU ℕ) := embR

/-! ## The ring of devices -/

/-- The right neighbour. -/
def nxt (c : Dev nD) : Dev nD := ⟨(c.val + 1) % 32, Nat.mod_lt _ (by decide)⟩
/-- The left neighbour. -/
def prv (c : Dev nD) : Dev nD := ⟨(c.val + 31) % 32, Nat.mod_lt _ (by decide)⟩

theorem prv_nxt (c : Dev nD) : prv (nxt c) = c := by
  have := c.isLt; refine Fin.ext ?_; simp only [prv, nxt, nD] at *; omega
theorem nxt_prv (c : Dev nD) : nxt (prv c) = c := by
  have := c.isLt; refine Fin.ext ?_; simp only [prv, nxt, nD] at *; omega

/-- The first device the body computes is the left neighbour, -/
theorem dev1_eq (c : Dev nD) : (⟨k0_dev1 c, k0_dev1_lt c⟩ : Dev nD) = prv c := Fin.ext (k0_dev1_eq c)
/-- and the second the right neighbour. -/
theorem dev2_eq (c : Dev nD) : (⟨k0_dev2 c, k0_dev2_lt c⟩ : Dev nD) = nxt c := Fin.ext (k0_dev2_eq c)

/-- The ring as a permutation of the devices. -/
def ring : Dev nD ≃ Dev nD := ⟨nxt, prv, prv_nxt, nxt_prv⟩

/-- The device `h` places to the left of `c`. -/
def back (h : ℕ) (c : Dev nD) : Dev nD := prv^[h] c

theorem back_zero (c : Dev nD) : back 0 c = c := rfl
theorem back_succ (h : ℕ) (c : Dev nD) : back (h + 1) c = back h (prv c) := Function.iterate_succ_apply _ _ _
theorem back_succ_nxt (h : ℕ) (c : Dev nD) : back (h + 1) (nxt c) = back h c := by rw [back_succ, prv_nxt]

/-! ## The cells -/

/-- The slot of a number of hops: its parity. -/
def sl (h : ℕ) : Fin 2 := ⟨h % 2, Nat.mod_lt _ (by decide)⟩

theorem sl_add_two (h : ℕ) : sl (h + 2) = sl h := Fin.ext (Nat.add_mod_right h 2)

/-- A slot is the slot of an even hop or of an odd one. -/
theorem sl_cases (h : ℕ) : (sl h = 0 ∧ sl (h + 1) = 1 ∧ h = 2 * (h / 2)) ∨ (sl h = 1 ∧ sl (h + 1) = 0 ∧ h = 2 * (h / 2) + 1) := by
  rcases Nat.mod_two_eq_zero_or_one h with e | e
  · exact .inl ⟨Fin.ext e, Fin.ext (show (h + 1) % 2 = 1 by omega), by omega⟩
  · exact .inr ⟨Fin.ext e, Fin.ext (show (h + 1) % 2 = 0 by omega), by omega⟩

/-- The five semaphores of the ring. -/
abbrev csem : Fin 5 → SemLoc sig
  | 0 => .reg readyS | 1 => .dma (sendS 0) | 2 => .dma (sendS 1) | 3 => .dma (recvS 0) | 4 => .dma (recvS 1)
/-- The four of them that the launch scopes. -/
abbrev osem : Fin 4 → SemLoc sig
  | 0 => .dma (sendS 0) | 1 => .dma (sendS 1) | 2 => .dma (recvS 0) | 3 => .dma (recvS 1)

abbrev kcell (ck : Dev nD × Fin 5) : GSem nD τ sig := ((ck.1 : Thread nD τ), csem ck.2)
abbrev readyC (c : Dev nD) : GSem nD τ sig := ((c : Thread nD τ), .reg readyS)
abbrev sendC (c : Dev nD) (s : Fin 2) : GSem nD τ sig := ((c : Thread nD τ), .dma (sendS s))
abbrev recvC (c : Dev nD) (s : Fin 2) : GSem nD τ sig := ((c : Thread nD τ), .dma (recvS s))

/-- The place of a slot's `send` cell among the five, -/
def kS (s : Fin 2) : Fin 5 := ⟨s.val + 1, by omega⟩
/-- and of its `recv` cell. -/
def kR (s : Fin 2) : Fin 5 := ⟨s.val + 3, by omega⟩

theorem kcell_ready (c : Dev nD) : kcell (c, 0) = readyC c := rfl
theorem kcell_send (c : Dev nD) (s : Fin 2) : kcell (c, kS s) = sendC c s := by
  rcases Fin.exists_fin_two.mp ⟨s, rfl⟩ with h | h <;> subst h <;> rfl
theorem kcell_recv (c : Dev nD) (s : Fin 2) : kcell (c, kR s) = recvC c s := by
  rcases Fin.exists_fin_two.mp ⟨s, rfl⟩ with h | h <;> subst h <;> rfl

theorem csem_injective : Function.Injective csem := by decide

/-- What a transfer of one slot credits. -/
abbrev N : ℕ := (slotM 0).view.dmaCredit
theorem N_pos : 0 < N := View.dmaCredit_pos _ (by decide)
theorem credit_slot (s : Fin 2) : (slotM s).view.dmaCredit = N := by
  rcases Fin.exists_fin_two.mp ⟨s, rfl⟩ with h | h <;> subst h <;> rfl

/-- The hop that uses round `q` of a semaphore; no hop for a semaphore that is none of the five. -/
def hopNo (l : SemLoc sig) (q : ℕ) : ℕ :=
  if l = .reg readyS then q
  else if l = .dma (sendS 0) then 2 * q
  else if l = .dma (sendS 1) then 2 * q + 1
  else if l = .dma (recvS 1) then 2 * q
  else if l = .dma (recvS 0) then 2 * q + 1
  else 31

theorem hopNo_ready (q : ℕ) : hopNo (.reg readyS) q = q := if_pos rfl
theorem hopNo_send (s : Fin 2) (q : ℕ) : hopNo (.dma (sendS s)) q = 2 * q + s.val := by
  rcases Fin.exists_fin_two.mp ⟨s, rfl⟩ with h | h <;> subst h <;> unfold hopNo
  · rw [if_neg (fun h => by cases h), if_pos rfl]; rfl
  · rw [if_neg (fun h => by cases h), if_neg (by decide), if_pos rfl]; rfl
theorem hopNo_recv (s : Fin 2) (q : ℕ) : hopNo (.dma (recvS s)) q = 2 * q + (1 - s.val) := by
  rcases Fin.exists_fin_two.mp ⟨s, rfl⟩ with h | h <;> subst h <;> unfold hopNo
  · rw [if_neg (fun h => by cases h), if_neg (by decide), if_neg (by decide), if_neg (by decide), if_pos rfl]; rfl
  · rw [if_neg (fun h => by cases h), if_neg (by decide), if_neg (by decide), if_pos rfl]; rfl

/-- Hop `h` uses round `h / 2` of the cell it sends from, -/
theorem hopNo_send_sl (h : ℕ) : hopNo (.dma (sendS (sl h))) (h / 2) = h := by
  rw [hopNo_send]; show 2 * (h / 2) + h % 2 = h; omega
/-- and of the cell its left neighbour's transfer lands on. -/
theorem hopNo_recv_sl (h : ℕ) : hopNo (.dma (recvS (sl (h + 1)))) (h / 2) = h := by
  rw [hopNo_recv]; show 2 * (h / 2) + (1 - (h + 1) % 2) = h; omega

/-! ## What each landing hands over -/

section Payloads

variable (P : Dev nD → S512x512.Idx → Elt F .f32)

/-- Slot `s` of device `c`, held whole and reading `X`. -/
abbrev slot (c : Dev nD) (s : Fin 2) (X : S512x512.Idx → Elt F .f32) : sProp 𝕄 := owns (c : Thread nD τ) (slotM s) fullShare X

/-- The right neighbour of `c` hands over its slot that hop `h` fills, and that its `recv` cell there is at the round of hop `h`. -/
def readyPay (c : Dev nD) (h : ℕ) : sProp 𝕄 :=
  iprop((∃ X, slot (nxt c) (sl (h + 1)) X) ∗ reached ER (recvC (nxt c) (sl (h + 1))) (h / 2))
/-- The slot hop `h` sent from comes back, as it was. -/
def sendPay (c : Dev nD) (h : ℕ) : sProp 𝕄 := slot c (sl h) (P (back h c))
/-- The slot hop `h` filled, holding the partial sum of the device `h + 1` to the left; and that the left neighbour's
    `ready` cell is at the round of the next hop. -/
def recvPay (c : Dev nD) (h : ℕ) : sProp 𝕄 :=
  iprop(slot c (sl (h + 1)) (P (back (h + 1) c)) ∗ reached ER (readyC (prv c)) (h + 1))

instance readyPay_storable (c : Dev nD) (h : ℕ) : BI.Storable (upEmb : UEmb _ 𝕄) (readyPay (F := F) c h) := by
  unfold readyPay; infer_instance
instance sendPay_storable (c : Dev nD) (h : ℕ) : BI.Storable (upEmb : UEmb _ 𝕄) (sendPay P c h) := by
  unfold sendPay; infer_instance
instance recvPay_storable (c : Dev nD) (h : ℕ) : BI.Storable (upEmb : UEmb _ 𝕄) (recvPay P c h) := by
  unfold recvPay; infer_instance

/-- Being a `send` semaphore, being a `recv` semaphore. -/
abbrev IsSend (l : SemLoc sig) : Prop := l = .dma (sendS 0) ∨ l = .dma (sendS 1)
abbrev IsRecv (l : SemLoc sig) : Prop := l = .dma (recvS 0) ∨ l = .dma (recvS 1)

theorem isSend (s : Fin 2) : IsSend (.dma (sendS s)) := by revert s; decide
theorem isRecv (s : Fin 2) : IsRecv (.dma (recvS s)) := by revert s; decide
theorem not_isSend_recv (s : Fin 2) : ¬ IsSend (.dma (recvS s)) := by revert s; decide

/-- The schedule: thirty-one hops, one duty at each round a hop uses. -/
def Rd : Rounds.Schedule (GSem nD τ sig) Unit 𝕄 where
  duties g q := if g.1.2 = .tc ∧ hopNo g.2 q < 31 then {()} else ∅
  unitless _ := False
  amount g _ _ := if g.2 = .reg readyS then 1 else N
  payload g q _ :=
    if g.2 = .reg readyS then readyPay g.1.1 (hopNo g.2 q)
    else if IsSend g.2 then sendPay P g.1.1 (hopNo g.2 q)
    else if IsRecv g.2 then recvPay P g.1.1 (hopNo g.2 q)
    else iprop(emp)
  amount_pos g _ _ _ := by
    by_cases h : g.2 = .reg readyS
    · rw [if_pos h]; exact Nat.one_pos
    · rw [if_neg h]; exact N_pos

instance payload_storable (g : GSem nD τ sig) (q : ℕ) (d : Unit) : BI.Storable (upEmb : UEmb _ 𝕄) ((Rd P).payload g q d) := by
  dsimp only [Rd]
  (repeat' split) <;> infer_instance

variable (c : Dev nD) (h : ℕ)

theorem duties_eq (l : SemLoc sig) (q : ℕ) : (Rd P).duties ((c : Thread nD τ), l) q = if hopNo l q < 31 then {()} else ∅ := by
  dsimp only [Rd]; exact if_congr (and_iff_right rfl) rfl rfl
theorem duties_ready (hh : h < 31) : (Rd P).duties (readyC c) h = {()} := by
  rw [duties_eq, hopNo_ready, if_pos hh]
theorem duties_send (hh : h < 31) : (Rd P).duties (sendC c (sl h)) (h / 2) = {()} := by
  rw [duties_eq, hopNo_send_sl, if_pos hh]
theorem duties_recv (hh : h < 31) : (Rd P).duties (recvC c (sl (h + 1))) (h / 2) = {()} := by
  rw [duties_eq, hopNo_recv_sl, if_pos hh]

/-- From the round after the last hop on, a cell has no duty. -/
theorem duties_later_ready : ∀ r, 31 ≤ r → (Rd P).duties (readyC c) r = ∅ := fun r hr => by
  rw [duties_eq, hopNo_ready, if_neg (by omega)]
theorem duties_later_send (hh : 31 ≤ h) : ∀ r, h / 2 ≤ r → (Rd P).duties (sendC c (sl h)) r = ∅ := fun r hr => by
  rw [duties_eq, hopNo_send, if_neg (by show ¬ 2 * r + h % 2 < 31; omega)]
theorem duties_later_recv (hh : 31 ≤ h) : ∀ r, h / 2 ≤ r → (Rd P).duties (recvC c (sl (h + 1))) r = ∅ := fun r hr => by
  rw [duties_eq, hopNo_recv, if_neg (by show ¬ 2 * r + (1 - (h + 1) % 2) < 31; omega)]

theorem amount_ready (q : ℕ) (d : Unit) : (Rd P).amount (readyC c) q d = 1 := by dsimp only [Rd]; exact if_pos rfl
theorem amount_send (s : Fin 2) (q : ℕ) (d : Unit) : (Rd P).amount (sendC c s) q d = N := by
  dsimp only [Rd]; exact if_neg (fun h => by cases h)
theorem amount_recv (s : Fin 2) (q : ℕ) (d : Unit) : (Rd P).amount (recvC c s) q d = N := by
  dsimp only [Rd]; exact if_neg (fun h => by cases h)

theorem expect_ready (hh : h < 31) : (Rd P).expect (readyC c) h = 1 := by
  unfold Schedule.expect Schedule.amountOf; rw [duties_ready P c h hh, Finset.sum_singleton, amount_ready]
theorem expect_send (hh : h < 31) : (Rd P).expect (sendC c (sl h)) (h / 2) = N := by
  unfold Schedule.expect Schedule.amountOf; rw [duties_send P c h hh, Finset.sum_singleton, amount_send]
theorem expect_recv (hh : h < 31) : (Rd P).expect (recvC c (sl (h + 1))) (h / 2) = N := by
  unfold Schedule.expect Schedule.amountOf; rw [duties_recv P c h hh, Finset.sum_singleton, amount_recv]

theorem payload_ready (d : Unit) : (Rd P).payload (readyC c) h d = readyPay c h := by
  dsimp only [Rd]; rw [if_pos rfl, hopNo_ready]
theorem payload_send (d : Unit) : (Rd P).payload (sendC c (sl h)) (h / 2) d = sendPay P c h := by
  dsimp only [Rd]; rw [if_neg (fun h => by cases h), if_pos (isSend _), hopNo_send_sl]
theorem payload_recv (d : Unit) : (Rd P).payload (recvC c (sl (h + 1))) (h / 2) d = recvPay P c h := by
  dsimp only [Rd]; rw [if_neg (fun h => by cases h), if_neg (not_isSend_recv _), if_pos (isRecv _), hopNo_recv_sl]

theorem rest_ready (hh : h < 31) : bigSep ((Rd P).duties (readyC c) h \ ∅) (fun d => (Rd P).payload (readyC c) h d) = readyPay c h := by
  rw [Finset.sdiff_empty, duties_ready P c h hh, bigSep_singleton, payload_ready]
theorem rest_send (hh : h < 31) :
    bigSep ((Rd P).duties (sendC c (sl h)) (h / 2) \ ∅) (fun d => (Rd P).payload (sendC c (sl h)) (h / 2) d) = sendPay P c h := by
  rw [Finset.sdiff_empty, duties_send P c h hh, bigSep_singleton, payload_send]
theorem rest_recv (hh : h < 31) :
    bigSep ((Rd P).duties (recvC c (sl (h + 1))) (h / 2) \ ∅) (fun d => (Rd P).payload (recvC c (sl (h + 1))) (h / 2) d) = recvPay P c h := by
  rw [Finset.sdiff_empty, duties_recv P c h hh, bigSep_singleton, payload_recv]

end Payloads

/-! ## What a device owes, and the levels -/

/-- What hop `h` of device `c` pays on other devices' cells: the right neighbour's `recv` cell and the left one's `ready` cell. -/
def due (h : ℕ) (c : Dev nD) : CellTallies nD τ sig ℕ := tallyAt (recvC (nxt c) (sl (h + 1))) h N + tallyAt (readyC (prv c)) h 1
/-- What device `c` still owes before hop `h`. -/
def owed (h : ℕ) (c : Dev nD) : CellTallies nD τ sig ℕ := ∑ i ∈ Finset.Ico h 31, due i c

theorem owed_last (c : Dev nD) : owed 31 c = 0 := by unfold owed; rw [Finset.Ico_self, Finset.sum_empty]
/-- Before hop `h` a device owes the hop's two dues beside those of the later hops. -/
theorem owed_peel (h : ℕ) (hh : h < 31) (c : Dev nD) :
    owed h c = (owed (h + 1) c + tallyAt (recvC (nxt c) (sl (h + 1))) h N) + tallyAt (readyC (prv c)) h 1 := by
  unfold owed; rw [Finset.sum_eq_sum_Ico_succ_bot hh, due, add_comm, add_assoc]

/-- The indices of a cell of a TensorCore: the hops. -/
def L (g : GSem nD τ sig) : Finset ℕ := if g.1.2 = .tc then Finset.range 31 else ∅
/-- The levels: hop by hop, `ready` below `recv`; everything else at the bottom. -/
def lv (g : GSem nD τ sig) (i : ℕ) : ℕ := if g.2 = .reg readyS then 2 * i + 1 else if IsRecv g.2 then 2 * i + 2 else 0

theorem L_of_ne (g : GSem nD τ sig) (h : g.1.2 ≠ .tc) : L g = ∅ := if_neg h
theorem L_tc (c : Dev nD) (l : SemLoc sig) : L ((c : Thread nD τ), l) = Finset.range 31 := if_pos rfl

theorem lv_ready (c : Dev nD) (i : ℕ) : lv (readyC c) i = 2 * i + 1 := if_pos rfl
theorem lv_recv (c : Dev nD) (s : Fin 2) (i : ℕ) : lv (recvC c s) i = 2 * i + 2 := by
  unfold lv; rw [if_neg (fun h => by cases h), if_pos (isRecv s)]
theorem lv_other (c : Dev nD) (l : SemLoc sig) (h1 : l ≠ .reg readyS) (h2 : ¬ IsRecv l) (i : ℕ) : lv ((c : Thread nD τ), l) i = 0 := by
  unfold lv; rw [if_neg h1, if_neg h2]

/-- Where a device owes something before hop `h`: at an index of a later hop, at a level above `2 h`. -/
theorem owed_pos {h : ℕ} {c : Dev nD} {g : GSem nD τ sig} {i : ℕ} (hp : 0 < owed h c g i) : i ∈ L g ∧ 2 * h < lv g i := by
  obtain ⟨j, hj, hp⟩ := Pipeline.sum_pos_exists hp
  rw [Finset.mem_Ico] at hj
  rcases Pipeline.add_pos_cases hp with hp | hp <;> obtain ⟨rfl, rfl⟩ := Pipeline.tallyAt_pos hp
  · exact ⟨by rw [L_tc, Finset.mem_range]; exact hj.2, by rw [lv_recv]; omega⟩
  · exact ⟨by rw [L_tc, Finset.mem_range]; exact hj.2, by rw [lv_ready]; omega⟩

/-- The wait for `ready` in hop `h`: what is owed is the hop's transfer and the later hops, all above it. -/
theorem mayWait_ready (c : Dev nD) (h : ℕ) (hh : h < 31) :
    (levAts L lv : sProp 𝕄) ⊢ MayWait (c : Thread nD τ) (.reg readyS) h (owed (h + 1) c + tallyAt (recvC (nxt c) (sl (h + 1))) h N) := by
  refine Pipeline.mayWait_of_levAts (by rw [L_tc, Finset.mem_range]; exact hh) fun g i hp => ?_
  rw [show lv ((c : Thread nD τ), .reg readyS) h = 2 * h + 1 from lv_ready c h]
  rcases Pipeline.add_pos_cases hp with hp | hp
  · exact ⟨(owed_pos hp).1, by have := (owed_pos hp).2; omega⟩
  · obtain ⟨rfl, rfl⟩ := Pipeline.tallyAt_pos hp
    exact ⟨by rw [L_tc, Finset.mem_range]; exact hh, by rw [lv_recv]; omega⟩
/-- The wait for the landing in hop `h`: only the later hops are owed, above it. -/
theorem mayWait_recv (c : Dev nD) (h : ℕ) (hh : h < 31) (s : Fin 2) :
    (levAts L lv : sProp 𝕄) ⊢ MayWait (c : Thread nD τ) (.dma (recvS s)) h (owed (h + 1) c) := by
  refine Pipeline.mayWait_of_levAts (by rw [L_tc, Finset.mem_range]; exact hh) fun g i hp => ?_
  rw [show lv ((c : Thread nD τ), .dma (recvS s)) h = 2 * h + 2 from lv_recv c s h]
  exact ⟨(owed_pos hp).1, by have := (owed_pos hp).2; omega⟩
/-- A wait on any cell at the bottom, whatever hops are still owed. -/
theorem mayWait_bottom (c : Dev nD) (l : SemLoc sig) (h1 : l ≠ .reg readyS) (h2 : ¬ IsRecv l) (h i : ℕ) (hi : i < 31) :
    (levAts L lv : sProp 𝕄) ⊢ MayWait (c : Thread nD τ) l i (owed h c) := by
  refine Pipeline.mayWait_of_levAts (by rw [L_tc, Finset.mem_range]; exact hi) fun g j hp => ?_
  rw [lv_other c l h1 h2]
  exact ⟨(owed_pos hp).1, by have := (owed_pos hp).2; omega⟩

end Cert.KernelIdeal.Ring

end
-- ==== Proof.Ideal.Hop.lean ====
/- One hop of the ring, at any device and any of the thirty-one hops, and the thirty-one in a row. -/
module

public import proofs.«01_k».proof.Proof.Ideal.Protocol
public import Idealize.ShloMosaic.Lib.Pipeline.Value

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

abbrev 𝒱₀ : Variants := Variants.none

/-! ## What the loads and the store of a hop read and write -/

theorem zero2 : (![0, 0] : Fin 2 → Nat) = fun _ => 0 := funext fun a => by fin_cases a <;> rfl

theorem read_out (f : (cc0_stg5_0 : Ref sig .tc).ty.Contents (Elt F)) : outM.view.readAt (Elt F) outR.toLoadRect f = f :=
  Memref.readAt_unit_zero (Elt F) cc0_stg5_0 zero2 _ f
theorem write_out (f w : (cc0_stg5_0 : Ref sig .tc).ty.Contents (Elt F)) :
    (outM.access outR : View sig .tc _ _ _).write (Elt F) f w Finset.univ = w :=
  Memref.write_access_unit_zero_univ (Elt F) cc0_stg5_0 zero2 _ f w

/-- The elements of a slot, through the exchange buffer and through the slot, are the same. -/
theorem slot_set (s : Fin 2) : (slotM s).view.set = comM.view.setOn (slotR s).set := by
  exact (View.set_reshape _ _).trans (View.set_slice _ _)

/-- A hop adds to the result what the slot reads. -/
theorem add_slot (a : Vec F S512x512 .f32) (s : Fin 2) (f : (slotM s).view.ty.Contents (Elt F)) :
    k0_pay1 a (comM.view.readAt (Elt F) (slotR s).toLoadRect f) = addf a ((slotM s).view.read (Elt F) f) := by
  unfold k0_pay1; dsimp only
  rw [shapeCast_self]; rfl

/-- Storing a matrix, as a block of one row, into a slot leaves the slot reading that matrix. -/
theorem store_slot (s : Fin 2) (f : (slotM s).view.ty.Contents (Elt F)) (X : FVec F S512x512 .f32) :
    (slotM s).view.read (Elt F) ((comM.access (slotR s) : View sig .tc _ _ _).write (Elt F) f (shapeCast S1x512x512 X shapeCasts_S512x512_S1x512x512) Finset.univ) = X := by
  funext j
  show View.read (Elt F) (comM.access (slotR s)) (View.write (Elt F) (comM.access (slotR s)) f _ Finset.univ) _ = X j
  rw [View.read_write_univ]
  exact congrFun (shapeCast_shapeCast X shapeCasts_S512x512_S1x512x512 shapeCasts_S1x512x512_S512x512) j

/-! ## The cells' invariants -/

variable (P : Dev nD → S512x512.Idx → Elt F .f32) (K : Dev nD × Fin 5 → ℕ)

/-- Every cell's invariant, and that every cell has reached round 0. -/
def records : sProp 𝕄 :=
  iprop((bigSep Finset.univ fun ck : Dev nD × Fin 5 => cellInv ER (Rd P) (K ck) (kcell ck))
    ∗ bigSep Finset.univ fun ck : Dev nD × Fin 5 => reached ER (kcell ck) 0)

instance records_persistent : BI.Persistent (records P K) := by unfold records; infer_instance

theorem inv_at (ck : Dev nD × Fin 5) : records P K ⊢ cellInv ER (Rd P) (K ck) (kcell ck) := by
  unfold records; iintro ⟨H, -⟩
  iapply (show (bigSep Finset.univ fun ck : Dev nD × Fin 5 => (cellInv ER (Rd P) (K ck) (kcell ck) : sProp 𝕄)) ⊢ cellInv ER (Rd P) (K ck) (kcell ck)
    from bigSep_elim (Finset.mem_univ ck)) $$ H
theorem reached_at (ck : Dev nD × Fin 5) : records P K ⊢ reached ER (kcell ck) 0 := by
  unfold records; iintro ⟨-, H⟩
  iapply (show (bigSep Finset.univ fun ck : Dev nD × Fin 5 => (reached ER (kcell ck) 0 : sProp 𝕄)) ⊢ reached ER (kcell ck) 0
    from bigSep_elim (Finset.mem_univ ck)) $$ H
theorem inv_send (c : Dev nD) (s : Fin 2) : records P K ⊢ cellInv ER (Rd P) (K (c, kS s)) (sendC c s) := by
  rw [← kcell_send]; exact inv_at P K (c, kS s)
theorem inv_recv (c : Dev nD) (s : Fin 2) : records P K ⊢ cellInv ER (Rd P) (K (c, kR s)) (recvC c s) := by
  rw [← kcell_recv]; exact inv_at P K (c, kR s)

/-! ## The state before a hop -/

/-- What hop `i` spends: the tokens of its three duties, and the credits of the two waits others pay for. -/
def fuel (c : Dev nD) (i : ℕ) : sProp 𝕄 :=
  iprop(dutyTok ER (readyC (prv c)) i () ∗ dutyTok ER (sendC c (sl i)) (i / 2) () ∗ dutyTok ER (recvC (nxt c) (sl (i + 1))) (i / 2) ()
    ∗ cred (tallyAt (readyC c) i 1) ∗ cred (tallyAt (recvC c (sl (i + 1))) i N))

/-- Where the five cells of device `c` are before hop `h`, with the round its left neighbour's `ready` cell has reached. -/
def places (c : Dev nD) (h : ℕ) : sProp 𝕄 :=
  iprop(atPos ER (readyC c) h ∅ 0 ∗ atPos ER (sendC c (sl h)) (h / 2) ∅ 0 ∗ atPos ER (sendC c (sl (h + 1))) ((h + 1) / 2) ∅ 0
    ∗ atPos ER (recvC c (sl (h + 1))) (h / 2) ∅ 0 ∗ atPos ER (recvC c (sl h)) ((h + 1) / 2) ∅ 0
    ∗ reached ER (sendC c (sl h)) (h / 2) ∗ reached ER (sendC c (sl (h + 1))) ((h + 1) / 2)
    ∗ reached ER (recvC c (sl (h + 1))) (h / 2) ∗ reached ER (recvC c (sl h)) ((h + 1) / 2)
    ∗ reached ER (readyC (prv c)) h)

/-- Before hop `h`: the slot to send holds the partial sum of the device `h` to the left, the other slot anything, the result's
    buffer `a`; the cells' places, the fuel of the hops to come, and what is owed for them. -/
def before (c : Dev nD) (h : ℕ) (a : Vec F S512x512 .f32) : sProp 𝕄 :=
  iprop(slot c (sl h) (P (back h c)) ∗ (∃ X, slot c (sl (h + 1)) X)
    ∗ (((c : Thread nD τ).loc cc0_stg5_0) ↦{fullShare} (a : Buf (Elt F) ((c : Thread nD τ).loc cc0_stg5_0)))
    ∗ places c h ∗ bigSep (Finset.Ico h 31) (fuel c) ∗ ∃ W, owes (c : Thread nD τ) (owed h c) W)

theorem fuel_peel (c : Dev nD) (h : ℕ) (hh : h < 31) :
    (bigSep (Finset.Ico h 31) (fuel c) : sProp 𝕄) ⊢ iprop(fuel c h ∗ bigSep (Finset.Ico (h + 1) 31) (fuel c)) := by
  rw [← Finset.insert_Ico_succ_left_eq_Ico hh]
  exact Entails.of_eq (bigSep_insert (fun hm => absurd (Finset.mem_Ico.mp hm).1 (Nat.not_succ_le_self h)))

/-- Slot `s` as what the owner of its elements holds. -/
abbrev slotPts (c : Dev nD) (s : Fin 2) (f : Buf (Elt F) ((slotM s).view.loc (c : Thread nD τ))) : sProp 𝕄 :=
  (slotM s).view.loc (c : Thread nD τ) ↦[(slotM s).view.set]{fullShare} f

/-- The transfer of hop `h`, addressed to a device `n` that is the right neighbour: it hands over both slots, pays the hop's two
    duties, and leaves the credit of the wait for its own read-out. -/
theorem wp_send_hop (c n : Dev nD) (hn : n = nxt c) (h : ℕ) (hh : h < 31)
    {hsc : (slotM (sl (h + 1)) : Memref sig (Dev.tc n : Thread nD τ).2.kind .vmem S512x512 .f32).view.ref.isScScratch = false}
    {hsrc : (slotM (sl h)).view.WordExact} {hdst : (slotM (sl (h + 1))).view.WordExact}
    {hsem : DmaTarget.Typed .vmem (.dma (recvS (sl (h + 1)))) (.remote (Dev.tc n : Thread nD τ) (slotM (sl (h + 1))) (.dma (sendS (sl h))) hsc)}
    {α : Type} {Q : α → sProp 𝕄} {k : PUnit → Prog (TpuEff nD τ sig (Elt F) Λ₀ .tc) α}
    (f : Buf (Elt F) ((slotM (sl h)).view.loc (c : Thread nD τ))) (hf : (slotM (sl h)).view.read (Elt F) f = P (back h c))
    (fn : Buf (Elt F) ((slotM (sl (h + 1))).view.loc (nxt c : Thread nD τ))) (W : Waits sig ℕ) :
    iprop(cellInv ER (Rd P) (K (c, kS (sl h))) (sendC c (sl h)) ∗ cellInv ER (Rd P) (K (nxt c, kR (sl (h + 1)))) (recvC (nxt c) (sl (h + 1)))
        ∗ slotPts c (sl h) f ∗ (slotPts (nxt c) (sl (h + 1)) fn ∗ reached ER (readyC c) (h + 1))
        ∗ owes (c : Thread nD τ) (owed (h + 1) c + tallyAt (recvC (nxt c) (sl (h + 1))) h N) W
        ∗ dutyTok ER (sendC c (sl h)) (h / 2) () ∗ reached ER (sendC c (sl h)) (h / 2)
        ∗ dutyTok ER (recvC (nxt c) (sl (h + 1))) (h / 2) () ∗ reached ER (recvC (nxt c) (sl (h + 1))) (h / 2))
      ⊢ iprop(((cred (tallyAt (sendC c (sl h)) h N) ∗ owes (c : Thread nD τ) (owed (h + 1) c) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM (sl h)) (.remote (Dev.tc n : Thread nD τ) (slotM (sl (h + 1))) (.dma (sendS (sl h))) hsc)
                (.dma (recvS (sl (h + 1)))) hsrc hdst hsem) k) Q) := by
  subst hn
  exact Rounds.wp_send_pointsTo_with 𝒱₀ ER (Rd P) (c : Thread nD τ) none (κ₁ := K (c, kS (sl h))) (κ₂ := K (nxt c, kR (sl (h + 1))))
    (r₁ := h / 2) (r₂ := h / 2) (d₁ := ()) (d₂ := ()) (fd := fn) (F := reached ER (readyC c) (h + 1))
    (sem := .dma (recvS (sl (h + 1))))
    (by rw [duties_send P c h hh]; exact Finset.mem_singleton_self _) (by rw [duties_recv P (nxt c) h hh]; exact Finset.mem_singleton_self _)
    h h N (credit_slot _) (amount_send P c _ _ ()) (amount_recv P (nxt c) _ _ ()) (owed (h + 1) c) rfl (W := W)
    (by rw [payload_send]; unfold sendPay; rw [← hf]; exact owns_intro _ _ _ _)
    (by
      rw [payload_recv]; unfold recvPay; rw [back_succ_nxt, prv_nxt, ← hf]
      refine sep_mono_left ?_
      exact (owns_intro _ _ _ _).trans (Entails.of_eq (congrArg _ (View.read_write_univ _ _))))

/-- ONE HOP, at any device: from the state before it, whatever runs next runs from the state before the next one, the result having
    gained the partial sum of the device `h + 1` to the left. -/
theorem wp_hop (c : Dev nD) (h : ℕ) (hh : h < 31) (a : Vec F S512x512 .f32) {α : Type} {Q : α → sProp 𝕄}
    (k : PUnit → Prog (TpuEff nD τ sig (Elt F) Λ₀ .tc) α) :
    iprop(records P K ∗ levAts L lv ∗ before P c h a
        ∗ (before P c (h + 1) (addf a (P (back (h + 1) c))) -∗ wp frame (wpE (defs₀ (F := F)) 𝒱₀ (c : Thread nD τ) none) Set.univ (k ⟨⟩) Q))
      ⊢ wp frame (wpE (defs₀ (F := F)) 𝒱₀ (c : Thread nD τ) none) Set.univ (hop (sl h) (sl (h + 1)) c >>= k) Q := by
  unfold hop
  simp only [semSignalWord, semWaitWord, Prog.lift, Prog.bind_op, Prog.bind_ret, Prog.pure_eq_ret]
  unfold before places
  iintro ⟨#HR, #Hlev, ⟨Hs, Hfree, Hout, ⟨HaB, HaS, HaS', HaV, HaV', #HrS, #HrS', #HrV, #HrV', #HrB⟩, Hfuel, ⟨%W, HO⟩⟩, Hk⟩
  ihave Hf := (fuel_peel c h hh) $$ Hfuel
  unfold fuel
  icases Hf with ⟨⟨HtB, HtS, HtV, HcB, HcV⟩, Hfuel⟩
  simp only [dev1_eq c]
  -- the left neighbour is told that the free slot is free, and gets it
  iapply (Rounds.wp_signal 𝒱₀ ER (Rd P) (c : Thread nD τ) none (dst := (prv c : Thread nD τ)) (κ := K (prv c, 0)) (r := h)
      (d := ()) (by rw [duties_ready P (prv c) h hh]; exact Finset.mem_singleton_self _) ((amount_ready P (prv c) h ()).trans (by decide)) h
      (owed (h + 1) c + tallyAt (recvC (nxt c) (sl (h + 1))) h N) (owed_peel h hh c)) $$ [HO HtB Hfree]
  · isplitr; · iapply (inv_at P K (prv c, 0)); iexact HR
    isplitl [HO]; · iexact HO
    isplitl [HtB]; · iexact HtB
    isplitl [Hfree]
    · rw [payload_ready]; unfold readyPay; rw [nxt_prv]
      isplitl [Hfree]; · iexact Hfree
      iexact HrV
    iexact HrB
  iintro HO
  -- the right neighbour says the same, and hands over its slot
  iapply (Rounds.wp_wait_rest_token 𝒱₀ ER (Rd P) (c : Thread nD τ) none (κ := K (c, 0))
      (wpE_semWait_eq 𝒱₀ (c : Thread nD τ) none Set.univ) (Set.mem_univ _) h
      (O := owed (h + 1) c + tallyAt (recvC (nxt c) (sl (h + 1))) h N) (W := W) (R := h) (m := 0) (T := ∅)
      (by rw [expect_ready P c h hh]; decide)) $$ [HcB HO HaB]
  · isplitr; · iapply (inv_at P K (c, 0)); iexact HR
    isplitl [HcB]; · iexact HcB
    isplitl [HO]; · iexact HO
    isplitr; · iapply (mayWait_ready c h hh); iexact Hlev
    iexact HaB
  iintro ⟨HO, HaB, #HrB1, Hpay⟩
  ihave Hp := (Entails.of_eq (rest_ready P c h hh)) $$ Hpay
  unfold readyPay
  icases Hp with ⟨⟨%X, Hdst⟩, #HrVN⟩
  unfold slot owns
  icases Hs with ⟨%f, %hf, Hs⟩
  icases Hdst with ⟨%fn, %hfn, Hdst⟩
  -- the transfer
  iapply (wp_send_hop P K c _ (dev2_eq c) h hh f hf fn (insert (SemLoc.reg readyS, h) W)) $$ [Hs Hdst HO HtS HtV]
  · isplitr; · iapply (inv_send P K c (sl h)); iexact HR
    isplitr; · iapply (inv_recv P K (nxt c) (sl (h + 1))); iexact HR
    isplitl [Hs]; · iexact Hs
    isplitl [Hdst]
    · isplitl [Hdst]; · iexact Hdst
      iexact HrB1
    isplitl [HO]; · iexact HO
    isplitl [HtS]; · iexact HtS
    isplitr; · iexact HrS
    isplitl [HtV]; · iexact HtV
    iexact HrVN
  iintro ⟨HcS, HO⟩
  -- its read-out: the slot sent from is back
  iapply (Rounds.wp_wait_rest_token 𝒱₀ ER (Rd P) (c : Thread nD τ) none (κ := K (c, kS (sl h)))
      (wpE_waitDma2_eq 𝒱₀ (c : Thread nD τ) none Set.univ) (Set.mem_univ _) h (O := owed (h + 1) c)
      (W := insert (SemLoc.reg readyS, h) W) (R := h / 2) (m := 0) (T := ∅)
      (by rw [expect_send P c h hh, Nat.zero_add])) $$ [HcS HO HaS]
  · isplitr; · iapply (inv_send P K c (sl h)); iexact HR
    isplitl [HcS]; · rw [credit_slot]; iexact HcS
    isplitl [HO]; · iexact HO
    isplitr
    · iapply (mayWait_bottom c (.dma (sendS (sl h))) (fun e => by cases e) (by generalize sl h = s; revert s; decide) (h + 1) h hh); iexact Hlev
    iexact HaS
  iintro ⟨HO, HaS, #HrS1, Hpay⟩
  ihave Hs := (Entails.of_eq (rest_send P c h hh)) $$ Hpay
  unfold sendPay
  -- the landing from the left neighbour
  iapply (Rounds.wp_wait_rest_token 𝒱₀ ER (Rd P) (c : Thread nD τ) none (κ := K (c, kR (sl (h + 1))))
      (wpE_waitDma2_eq 𝒱₀ (c : Thread nD τ) none Set.univ) (Set.mem_univ _) h (O := owed (h + 1) c)
      (W := insert (SemLoc.dma (sendS (sl h)), h) (insert (SemLoc.reg readyS, h) W)) (R := h / 2) (m := 0) (T := ∅)
      (by rw [expect_recv P c h hh, Nat.zero_add])) $$ [HcV HO HaV]
  · isplitr; · iapply (inv_recv P K c (sl (h + 1))); iexact HR
    isplitl [HcV]; · rw [credit_slot]; iexact HcV
    isplitl [HO]; · iexact HO
    isplitr; · iapply (mayWait_recv c h hh (sl (h + 1))); iexact Hlev
    iexact HaV
  iintro ⟨HO, HaV, #HrV1, Hpay⟩
  ihave Hp := (Entails.of_eq (rest_recv P c h hh)) $$ Hpay
  unfold recvPay slot owns
  icases Hp with ⟨⟨%g, %hg, Hg⟩, #HrB2⟩
  -- the sum
  iapply (wp_load 𝒱₀ (c : Thread nD τ) none Set.univ (m := outM) (Finset.subset_univ _)) $$ Hout; iintro Hout
  rw [read_out]
  iapply (wp_load 𝒱₀ (c : Thread nD τ) none Set.univ (m := comM) (by rw [slot_set])) $$ Hg; iintro Hg
  iapply (wp_load 𝒱₀ (c : Thread nD τ) none Set.univ (m := outM) (Finset.subset_univ _)) $$ Hout; iintro Hout
  iapply (wp_store 𝒱₀ (c : Thread nD τ) none Set.univ (m := outM) (r := outR) (Mk := Finset.univ) (Finset.subset_univ _)) $$ Hout; iintro Hout
  rw [write_out, add_slot, hg]
  iapply Hk
  have hn : (h + 1 + 1) / 2 = h / 2 + 1 := by omega
  rw [sl_add_two, hn]
  isplitl [Hg]
  · iexists g
    isplitr; · (ipureintro; exact hg)
    iexact Hg
  isplitl [Hs]; · iexists _; iexact Hs
  isplitl [Hout]; · iexact Hout
  isplitl [HaB HaS HaS' HaV HaV']
  · isplitl [HaB]; · iexact HaB
    isplitl [HaS']; · iexact HaS'
    isplitl [HaS]; · iexact HaS
    isplitl [HaV']; · iexact HaV'
    isplitl [HaV]; · iexact HaV
    isplitr; · iexact HrS'
    isplitr; · iexact HrS1
    isplitr; · iexact HrV'
    isplitr; · iexact HrV1
    iexact HrB2
  isplitl [Hfuel]; · iexact Hfuel
  iexists _; iexact HO

/-- The result after the first `h` hops: the partial sums of the `h` devices to the left added, nearest first. -/
def acc (c : Dev nD) (a : Vec F S512x512 .f32) : ℕ → Vec F S512x512 .f32
  | 0 => a
  | h + 1 => addf (acc c a h) (P (back (h + 1) c))

/-- The remaining `n` hops, from before hop `h`. -/
theorem wp_hops (c : Dev nD) (a : Vec F S512x512 .f32) {Q : PUnit → sProp 𝕄} (n : ℕ) : ∀ h, h + n = 31 →
    iprop(records P K ∗ levAts L lv ∗ before P c h (acc P c a h) ∗ (before P c 31 (acc P c a 31) -∗ |={Set.univ}=> Q ⟨⟩))
      ⊢ wp frame (wpE (defs₀ (F := F)) 𝒱₀ (c : Thread nD τ) none) Set.univ (hops n (sl h) (sl (h + 1)) c) Q := by
  induction n with
  | zero =>
    intro h hh
    obtain rfl : h = 31 := hh
    unfold hops
    rw [Prog.pure_eq_ret, wp_ret]
    iintro ⟨-, -, Hb, Hk⟩
    iapply Hk; iexact Hb
  | succ n ih =>
    intro h hh
    unfold hops
    iintro ⟨#HR, #Hlev, Hb, Hk⟩
    iapply (wp_hop P K c h (by omega) (acc P c a h) (fun _ => hops n (sl (h + 1)) (sl h) c))
    isplitr; · iexact HR
    isplitr; · iexact Hlev
    isplitl [Hb]; · iexact Hb
    iintro Hb
    rw [← sl_add_two h]
    iapply (ih (h + 1) (by omega))
    isplitr; · iexact HR
    isplitr; · iexact Hlev
    isplitl [Hb]; · iexact Hb
    iexact Hk

end Cert.KernelIdeal.Ring

end
-- ==== Proof.Ideal.Body.lean ====
/- The whole body of the kernel on one device: the partial sum of its own experts, then the ring. -/
module

public import proofs.«01_k».proof.Proof.Ideal.Hop
public import proofs.«01_k».proof.Proof.Gen.KernelIdeal.Points
public import Idealize.ShloMosaic.Lib.Ring

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The memory the run starts from, every counter zero. -/
def s₀ : MemSt nD τ sig (Elt F) := ⟨m, fun _ => 0, ρ⟩

/-! ## The values of one device -/

/-- The device's blocks of the five operands, as staged. -/
def inX (c : Dev nD) : (cc0_stg0_0 : Ref sig .tc).ty.Contents (Elt F) :=
  (win0_0.blk (0 : Fin 1)).view.read (Elt F) ((s₀ m ρ).mem (win0_0.arr.view.loc (c : Thread nD τ)))
def inR (c : Dev nD) : (cc0_stg1_0 : Ref sig .tc).ty.Contents (Elt F) :=
  (win0_1.blk (0 : Fin 1)).view.read (Elt F) ((s₀ m ρ).mem (win0_1.arr.view.loc (c : Thread nD τ)))
def inI (c : Dev nD) : (cc0_stg2_0 : Ref sig .tc).ty.Contents (Elt F) :=
  (win0_2.blk (0 : Fin 1)).view.read (Elt F) ((s₀ m ρ).mem (win0_2.arr.view.loc (c : Thread nD τ)))
def inE (c : Dev nD) : (cc0_stg3_0 : Ref sig .tc).ty.Contents (Elt F) :=
  (win0_3.blk (0 : Fin 1)).view.read (Elt F) ((s₀ m ρ).mem (win0_3.arr.view.loc (c : Thread nD τ)))
def inS (c : Dev nD) : (cc0_stg4_0 : Ref sig .tc).ty.Contents (Elt F) :=
  (win0_4.blk (0 : Fin 1)).view.read (Elt F) ((s₀ m ρ).mem (win0_4.arr.view.loc (c : Thread nD τ)))

/-- One expert's matrix lies inside the device's block of four. -/
theorem exp_inb (j : Fin 4) : ∀ a, (![j.val, 0, 0] : Fin 3 → Nat) a + S1x256x512.size a ≤ S4x256x512.size a := by
  revert j; decide
/-- Expert `j` of a device's block of four. -/
abbrev expert (j : Fin 4) (W : (cc0_stg3_0 : Ref sig .tc).ty.Contents (Elt F)) : Vec F S1x256x512 .f32 :=
  (Memref.whole cc0_stg3_0).view.readAt (Elt F) (Rect.unit (s := S4x256x512) ![j.val, 0, 0] S1x256x512.size (exp_inb j)).toLoadRect W

/-- The number of a device within its axis, as the body computes it. -/
abbrev axisNo (c : Dev nD) : BitVec 32 := Scalar.remsi (Scalar.divsi (Dev.word c) 1#32) 32#32

/-- The device's first three experts, summed, -/
def three (c : Dev nD) (x : Vec F S512x256 .f32) (r : Vec F S256x128 .f32) (ix : Vec F S512x1 .i32)
    (W : (cc0_stg3_0 : Ref sig .tc).ty.Contents (Elt F)) : FVec F S512x512 .f32 :=
  k0_pay7 (axisNo c) (k0_pay2 x) (k0_pay3 ix) (k0_pay4 x r ix) k0_pay5 (k0_pay6 c x r ix) (expert 0 W) (expert 1 W) (expert 2 W)
/-- and what its fourth expert is applied to. -/
def fourth (c : Dev nD) (x : Vec F S512x256 .f32) (r : Vec F S256x128 .f32) (ix : Vec F S512x1 .i32) : FVec F S512x256 .f32 :=
  k0_pay8 (axisNo c) (k0_pay2 x) (k0_pay3 ix) (k0_pay4 x r ix)

/-- The partial sum of device `c`: its four experts, each at the rows routed to it. -/
def part (c : Dev nD) : S512x512.Idx → Elt F .f32 :=
  k0_pay9 (three c (inX m ρ c) (inR m ρ c) (inI m ρ c) (inE m ρ c)) (fourth c (inX m ρ c) (inR m ρ c) (inI m ρ c)) (expert 3 (inE m ρ c))
/-- The result before the first hop: the shared expert and the device's own partial sum. -/
def own (c : Dev nD) : Vec F S512x512 .f32 :=
  k0_pay10 (k0_pay2 (inX m ρ c)) (three c (inX m ρ c) (inR m ρ c) (inI m ρ c) (inE m ρ c)) (fourth c (inX m ρ c) (inR m ρ c) (inI m ρ c))
    (expert 3 (inE m ρ c)) (inS m ρ c)
/-- The result of device `c`: its own, and the partial sums of all the others. -/
def outAt (c : Dev nD) : (cc0_stg5_0 : Ref sig .tc).ty.Contents (Elt F) := acc (part m ρ) c (own m ρ c) 31

/-! ## What the loads of the prefix read -/

theorem zero3 : (![0, 0, 0] : Fin 3 → Nat) = fun _ => 0 := funext fun a => by fin_cases a <;> rfl

theorem read_x (f : (cc0_stg0_0 : Ref sig .tc).ty.Contents (Elt F)) :
    (Memref.whole cc0_stg0_0).view.readAt (Elt F) (Rect.unit (s := S512x256) ![0, 0] S512x256.size inb_S512x256_S512x256_0_0).toLoadRect f = f :=
  Memref.readAt_unit_zero (Elt F) cc0_stg0_0 zero2 _ f
theorem read_r (f : (cc0_stg1_0 : Ref sig .tc).ty.Contents (Elt F)) :
    (Memref.whole cc0_stg1_0).view.readAt (Elt F) (Rect.unit (s := S256x128) ![0, 0] S256x128.size inb_S256x128_S256x128_0_0).toLoadRect f = f :=
  Memref.readAt_unit_zero (Elt F) cc0_stg1_0 zero2 _ f
theorem read_i (f : (cc0_stg2_0 : Ref sig .tc).ty.Contents (Elt F)) :
    (Memref.whole cc0_stg2_0).view.readAt (Elt F) (Rect.unit (s := S512x1) ![0, 0] S512x1.size inb_S512x1_S512x1_0_0).toLoadRect f = f :=
  Memref.readAt_unit_zero (Elt F) cc0_stg2_0 zero2 _ f
theorem read_s (f : (cc0_stg4_0 : Ref sig .tc).ty.Contents (Elt F)) :
    (Memref.whole cc0_stg4_0).view.readAt (Elt F) (Rect.unit (s := S256x512) ![0, 0] S256x512.size inb_S256x512_S256x512_0_0).toLoadRect f = f :=
  Memref.readAt_unit_zero (Elt F) cc0_stg4_0 zero2 _ f

/-! ## The exchange buffer is its two slots -/

/-- The elements of slot `s`. -/
abbrev slotSet (c : Dev nD) (s : Fin 2) : Finset (Idx (comM.view.loc (c : Thread nD τ))) := (slotR s).set

theorem slot_elems (c : Dev nD) (s : Fin 2) : (slotM s).view.set = slotSet c s := (slot_set s).trans Finset.map_refl
theorem slots_disjoint (c : Dev nD) (s s' : Fin 2) (h : s ≠ s') : Disjoint (slotSet c s) (slotSet c s') :=
  Idealize.ShloMosaic.Ring.lead_disjoint (s := S2x512x512) (0 : Fin 3) 1 (fun s : Fin 2 => ![s.val, 0, 0]) S1x512x512.size slot_inb (fun b => (Nat.one_mul _).symm) rfl s s' h
theorem slots_cover (c : Dev nD) : Finset.univ.biUnion (slotSet c) = Finset.univ :=
  Idealize.ShloMosaic.Ring.lead_cover (s := S2x512x512) (0 : Fin 3) 1 (fun s : Fin 2 => ![s.val, 0, 0]) S1x512x512.size slot_inb (fun b => (Nat.one_mul _).symm)
    (fun b a ha => by fin_cases a; exact absurd rfl ha; rfl; rfl) rfl (fun a ha => by fin_cases a; exact absurd rfl ha; rfl; rfl) rfl

/-- The whole exchange buffer at `f` is its two slots at `f`; -/
theorem slots_split (c : Dev nD) (f : Buf (Elt F) ((c : Thread nD τ).loc cc0_scratch0)) :
    (((c : Thread nD τ).loc cc0_scratch0) ↦{fullShare} f : sProp 𝕄) ⊢ iprop(slotPts c 0 f ∗ slotPts c 1 f) := by
  refine (Entails.of_eq (Idealize.ShloMosaic.Ring.pointsTo_blocks (ℓ := comM.view.loc (c : Thread nD τ)) (slotSet c) (slots_disjoint c) (slots_cover c) f)).trans ?_
  rw [bigSep_univ_eq_bigSepL [(0 : Fin 2), 1] (by decide) (by decide)]
  rw [slotPts, slotPts, slot_elems c, slot_elems c]
  exact BI.Entails.refl _
/-- the two slots, each at some contents, are the whole buffer at some contents. -/
theorem slots_join (c : Dev nD) (f g : Buf (Elt F) ((c : Thread nD τ).loc cc0_scratch0)) :
    iprop(slotPts c 0 f ∗ slotPts c 1 g) ⊢ (iprop(∃ f, ((c : Thread nD τ).loc cc0_scratch0) ↦{fullShare} f) : sProp 𝕄) := by
  iintro ⟨H0, H1⟩
  iapply (Idealize.ShloMosaic.Ring.slots2_join (ℓ := comM.view.loc (c : Thread nD τ)) (slotSet c) (slots_disjoint c) (slots_cover c)
    (slotPts c 0) (slotPts c 1) (fun f => by rw [slotPts, slot_elems c]) (fun f => by rw [slotPts, slot_elems c]))
  isplitl [H0]; · iexists f; iexact H0
  iexists g; iexact H1

/-! ## The data of the launch -/

/-- What a device holds besides the buffers when it starts: every cell's invariant, the levels, its cells' places, the fuel. -/
def start (c : Dev nD) : sProp 𝕄 :=
  iprop((∃ K, records (part m ρ) K) ∗ levAts L lv ∗ places c 0 ∗ bigSep (Finset.Ico 0 31) (fuel c))
/-- Before the body: that, and the exchange buffer at anything. -/
def Φ₀ (c : Dev nD) : sProp 𝕄 := iprop(start m ρ c ∗ ∃ f, ((c : Thread nD τ).loc cc0_scratch0) ↦{fullShare} f)
/-- After it: the exchange buffer at anything and the five counters at zero. -/
def Φ₁ (c : Dev nD) : sProp 𝕄 :=
  iprop((∃ f, ((c : Thread nD τ).loc cc0_scratch0) ↦{fullShare} f)
    ∗ semVal (readyC c) 0 ∗ (semVal (sendC c 0) 0 ∗ semVal (sendC c 1) 0) ∗ (semVal (recvC c 0) 0 ∗ semVal (recvC c 1) 0))

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => inX m ρ c
    | ⟨1, _⟩ => inR m ρ c
    | ⟨2, _⟩ => inI m ρ c
    | ⟨3, _⟩ => inE m ρ c
    | ⟨4, _⟩ => inS m ρ c
    | ⟨5, _⟩ => outAt m ρ c
  Φ t := match t with
    | ⟨0, _⟩ => Φ₀ m ρ c
    | ⟨_ + 1, _⟩ => Φ₁ c
  q _ := fullShare
  owed t := match t with
    | ⟨0, _⟩ => owed 0 c
    | ⟨_ + 1, _⟩ => 0

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- A buffer held whole at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns; simp only [Memref.view_whole, View.read_whole, View.set_whole]

/-- What the staging buffers hold before the body and after it. -/
def bufsPre (c : Dev nD) : sProp 𝕄 :=
  iprop((∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bufsPost (c : Dev nD) : sProp 𝕄 :=
  iprop(stg c cc0_stg0_0 (inX m ρ c) ∗ stg c cc0_stg1_0 (inR m ρ c) ∗ stg c cc0_stg2_0 (inI m ρ c) ∗ stg c cc0_stg3_0 (inE m ρ c)
    ∗ stg c cc0_stg4_0 (inS m ρ c) ∗ stg c cc0_stg5_0 (outAt m ρ c))

set_option maxHeartbeats 800000 in
/-- The body of device `c`, from its staged operands to its result. -/
theorem sound_body (c : Dev nD) :
    iprop(Φ₀ m ρ c ∗ (dats m ρ 0 c).owesAt 0 t0_0.castSucc ∗ bufsPre m ρ c)
      ⊢ wp frame (wpE (defs₀ (F := F)) 𝒱₀ (c : Thread nD τ) none) Set.univ (prefixed (F := F))
          (fun _ => iprop(Φ₁ c ∗ (dats m ρ 0 c).owesAt 0 t0_0.succ ∗ bufsPost m ρ c)) := by
  unfold prefixed
  simp only [Prog.lift, Prog.bind_op, Prog.bind_ret, Prog.pure_eq_ret, wp_deviceId]
  unfold Φ₀ start bufsPre
  iintro ⟨⟨⟨⟨%K, #HR⟩, #Hlev, Hpl, Hfuel⟩, ⟨%f, Hscr⟩⟩, Ho, ⟨%d0, %g0, %h0, H0⟩, ⟨%d1, %g1, %h1, H1⟩, ⟨%d2, %g2, %h2, H2⟩,
    ⟨%d3, %g3, %h3, H3⟩, ⟨%d4, %g4, %h4, H4⟩, ⟨%d5, %g5, %h5, H5⟩⟩
  have e0 : g0 = inX m ρ c := by rw [h0]; unfold Dat.before; rw [if_pos (fetch0_0 t0_0)]; rfl
  have e1 : g1 = inR m ρ c := by rw [h1]; unfold Dat.before; rw [if_pos (fetch0_1 t0_0)]; rfl
  have e2 : g2 = inI m ρ c := by rw [h2]; unfold Dat.before; rw [if_pos (fetch0_2 t0_0)]; rfl
  have e3 : g3 = inE m ρ c := by rw [h3]; unfold Dat.before; rw [if_pos (fetch0_3 t0_0)]; rfl
  have e4 : g4 = inS m ρ c := by rw [h4]; unfold Dat.before; rw [if_pos (fetch0_4 t0_0)]; rfl
  subst e0 e1 e2 e3 e4
  unfold Dat.owesAt Pipeline.owesWithin
  icases Ho with ⟨%W, %hW, HO⟩
  rw [show (dats m ρ 0 c).owed t0_0.castSucc = owed 0 c from rfl]
  ihave Hs := (slots_split c f) $$ Hscr
  icases Hs with ⟨Hs0, Hs1⟩
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg1_0) (Finset.subset_univ _)) $$ H1; iintro H1
  iapply (wp_load 𝒱₀ (c : Thread nD τ) none Set.univ (m := Memref.whole cc0_stg2_0) (Finset.subset_univ _)) $$ H2; iintro H2
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_stg4_0) (Finset.subset_univ _)) $$ H4; iintro H4
  iapply (wp_load 𝒱₀ (c : Thread nD τ) none Set.univ (m := outM) (Finset.subset_univ _)) $$ H5; iintro H5
  iapply (wp_store 𝒱₀ (c : Thread nD τ) none Set.univ (m := outM) (r := outR) (Mk := Finset.univ) (Finset.subset_univ _)) $$ H5; iintro H5
  iapply (wp_load 𝒱₀ (c : Thread nD τ) none Set.univ (m := comM) (by rw [slot_set])) $$ Hs0; iintro Hs0
  iapply (wp_store 𝒱₀ (c : Thread nD τ) none Set.univ (m := comM) (r := slotR 0) (Mk := Finset.univ) (by rw [slot_set]; exact (View.set_slice comM.view (slotR 0)).subset)) $$ Hs0; iintro Hs0
  rw [write_out, read_x, read_r, read_i, read_s]
  iapply (wp_hops (part m ρ) K c (own m ρ c) 31 0 rfl)
  isplitr; · iexact HR
  isplitr; · iexact Hlev
  isplitl [Hs0 Hs1 H5 Hpl Hfuel HO]
  · unfold before
    isplitl [Hs0]
    · unfold slot owns
      iexists _
      isplitr
      · ipureintro; exact store_slot 0 f (part m ρ c)
      iexact Hs0
    isplitl [Hs1]
    · unfold slot owns
      iexists _; iexists f
      isplitr; · (ipureintro; rfl)
      iexact Hs1
    isplitl [H5]; · iexact H5
    isplitl [Hpl]; · iexact Hpl
    isplitl [Hfuel]; · iexact Hfuel
    iexists W; iexact HO
  -- every hop is done: the two slots are the buffer again, the cells close, their counters at zero
  unfold before places slot owns
  iintro ⟨⟨%u, -, Hs1⟩, ⟨%Y, %v, -, Hs0⟩, H5, ⟨HaB, HaS1, HaS0, HaV0, HaV1, -⟩, -, ⟨%W', HO⟩⟩
  rw [owed_last]
  imod (Rounds.cell_close ER (Rd (part m ρ)) (Set.mem_univ (K (c, 0))) (fun h => h) (R := 31) (duties_later_ready (part m ρ) c)) $$ [HaB] with HzB
  · isplitr; · iapply (inv_at (part m ρ) K (c, 0)); iexact HR
    iexact HaB
  imod (Rounds.cell_close ER (Rd (part m ρ)) (Set.mem_univ (K (c, kS 0))) (fun h => h) (R := 16) (duties_later_send (part m ρ) c 32 (by decide))) $$ [HaS0] with HzS0
  · isplitr; · iapply (inv_send (part m ρ) K c 0); iexact HR
    iexact HaS0
  imod (Rounds.cell_close ER (Rd (part m ρ)) (Set.mem_univ (K (c, kS 1))) (fun h => h) (R := 15) (duties_later_send (part m ρ) c 31 (by decide))) $$ [HaS1] with HzS1
  · isplitr; · iapply (inv_send (part m ρ) K c 1); iexact HR
    iexact HaS1
  imod (Rounds.cell_close ER (Rd (part m ρ)) (Set.mem_univ (K (c, kR 0))) (fun h => h) (R := 15) (duties_later_recv (part m ρ) c 31 (by decide))) $$ [HaV0] with HzV0
  · isplitr; · iapply (inv_recv (part m ρ) K c 0); iexact HR
    iexact HaV0
  imod (Rounds.cell_close ER (Rd (part m ρ)) (Set.mem_univ (K (c, kR 1))) (fun h => h) (R := 16) (duties_later_recv (part m ρ) c 32 (by decide))) $$ [HaV1] with HzV1
  · isplitr; · iapply (inv_recv (part m ρ) K c 1); iexact HR
    iexact HaV1
  imodintro
  unfold Φ₁ bufsPost
  rw [show (dats m ρ 0 c).owed t0_0.succ = 0 from rfl]
  isplitl [Hs0 Hs1 HzB HzS0 HzS1 HzV0 HzV1]
  · isplitl [Hs0 Hs1]
    · iapply (slots_join c v u)
      isplitl [Hs0]; · iexact Hs0
      iexact Hs1
    isplitl [HzB]; · iexact HzB
    isplitl [HzS0 HzS1]
    · isplitl [HzS0]; · iexact HzS0
      iexact HzS1
    isplitl [HzV0]; · iexact HzV0
    iexact HzV1
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 65536 in
/-- The library's obligation for the body, on device `c`. -/
theorem body_obligation (c : Dev nD) : BodyObligation (dats (F := F) m ρ 0 c) (defs₀ (F := F)) 𝒱₀ 0 Set.univ := fun t => by
  rw [fin_N0 t]
  rw [bigSep_W, bigSep_W]
  simp only [owns_whole_eq]
  show iprop(Φ₀ m ρ c ∗ (dats m ρ 0 c).owesAt 0 t0_0.castSucc ∗ bufsPre m ρ c) ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) cc0_scratch1 cc0_scratch2)
    (fun _ => iprop(Φ₁ c ∗ (dats m ρ 0 c).owesAt 0 t0_0.succ ∗ bufsPost m ρ c))
  rw [body_eq]
  exact sound_body m ρ c

end Cert.KernelIdeal.Ring

end
-- ==== Proof.Ideal.Launch.lean ====
/- The launch of the ring on thirty-two devices, and the run it proves. -/
module

public import proofs.«01_k».proof.Proof.Ideal.Body
public import Idealize.ShloMosaic.Lib.Pipeline.ValueKit.Geometry
public import Idealize.ShloMosaic.Lib.Pipeline.CollectiveSegs

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ### The cells and the tokens -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 5 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The three duty tokens of hop `i` on the cells of device `c`. -/
abbrev tokOf : Dev nD × ℕ × Fin 3 → GSem nD τ sig × ℕ × Unit
  | (c, i, 0) => (readyC c, i, ()) | (c, i, 1) => (sendC c (sl i), i / 2, ()) | (c, i, 2) => (recvC c (sl (i + 1)), i / 2, ())

/-- A token tells its hop, -/
theorem hopNo_tokOf (c : Dev nD) (i : ℕ) (k : Fin 3) : hopNo (tokOf (c, i, k)).1.2 (tokOf (c, i, k)).2.1 = i := by
  fin_cases k
  · exact hopNo_ready i
  · exact hopNo_send_sl i
  · exact hopNo_recv_sl i
/-- and which of the three it is. -/
theorem kind_tokOf (c : Dev nD) (i : ℕ) (k : Fin 3) :
    (if (tokOf (c, i, k)).1.2 = .reg readyS then (0 : Fin 3) else if IsSend (tokOf (c, i, k)).1.2 then 1 else 2) = k := by
  fin_cases k
  · exact if_pos rfl
  · exact (if_neg (fun h => by cases h)).trans (if_pos (isSend _))
  · exact (if_neg (fun h => by cases h)).trans (if_neg (not_isSend_recv _))

theorem tokOf_injective : Function.Injective tokOf := by
  rintro ⟨c, i, k⟩ ⟨c', i', k'⟩ h
  have h1 : c = c' := by
    have e (c : Dev nD) (i : ℕ) (k : Fin 3) : (tokOf (c, i, k)).1.1.1 = c := by fin_cases k <;> rfl
    rw [← e c i k, ← e c' i' k', h]
  have h2 : i = i' := by rw [← hopNo_tokOf c i k, ← hopNo_tokOf c' i' k', h]
  have h3 : k = k' := by rw [← kind_tokOf c i k, ← kind_tokOf c' i' k', h]
  rw [h1, h2, h3]
/-- The same with the hop below thirty-one. -/
def tokAt : Dev nD × Fin 31 × Fin 3 → GSem nD τ sig × ℕ × Unit := fun x => tokOf (x.1, x.2.1.val, x.2.2)
theorem tokAt_injective : Function.Injective tokAt := by
  rintro ⟨c, i, k⟩ ⟨c', i', k'⟩ h
  obtain ⟨h1, h2, h3⟩ : c = c' ∧ i.val = i'.val ∧ k = k' := by
    have := tokOf_injective h
    exact ⟨congrArg Prod.fst this, congrArg (fun x => x.2.1) this, congrArg (fun x => x.2.2) this⟩
  rw [h1, Fin.ext h2, h3]
def ringToks : Finset (GSem nD τ sig × ℕ × Unit) := Finset.univ.map ⟨tokAt, tokAt_injective⟩

def u₀ : UU :=
  (initOf (Pipeline.cells cfgs cellOf_inj) (Pipeline.launchToks cfgs cellOf_inj), initOf ringCells ringToks)

/-- The tokens of device `c`'s own cells, -/
def toks (c : Dev nD) : sProp 𝕄 :=
  iprop(bigSep (Finset.Ico 0 31) (fun i => dutyTok ER (readyC c) i ())
    ∗ bigSep (Finset.Ico 0 31) (fun i => dutyTok ER (sendC c (sl i)) (i / 2) ())
    ∗ bigSep (Finset.Ico 0 31) (fun i => dutyTok ER (recvC c (sl (i + 1))) (i / 2) ()))
/-- and those of the duties device `c` pays. -/
def payToks (c : Dev nD) : sProp 𝕄 :=
  iprop(bigSep (Finset.Ico 0 31) (fun i => dutyTok ER (readyC (prv c)) i ())
    ∗ bigSep (Finset.Ico 0 31) (fun i => dutyTok ER (sendC c (sl i)) (i / 2) ())
    ∗ bigSep (Finset.Ico 0 31) (fun i => dutyTok ER (recvC (nxt c) (sl (i + 1))) (i / 2) ()))

/-- What the launch deals device `c`. -/
def G (c : Dev nD) : sProp 𝕄 :=
  iprop((bigSep Finset.univ fun k : Fin 5 => roundState ER (Rd (part m ρ)) (kcell (c, k)) 0)
    ∗ (bigSep Finset.univ fun k : Fin 5 => iprop(atPos ER (kcell (c, k)) 0 ∅ 0 ∗ reached ER (kcell (c, k)) 0)) ∗ toks c)
/-- What the global step makes of it. -/
def G' (c : Dev nD) : sProp 𝕄 := iprop(∃ K, records (part m ρ) K ∗ places c 0 ∗ payToks c)

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The hops below thirty-one, as an interval. -/
theorem bigSep_hops (Φ : ℕ → sProp 𝕄) : (bigSep Finset.univ fun i : Fin 31 => Φ i.val) = bigSep (Finset.Ico 0 31) Φ := by
  have h : Finset.Ico 0 31 = (Finset.univ : Finset (Fin 31)).map Fin.valEmbedding := by decide
  rw [h, bigSep_map]; rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 5 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_prod]
    unfold toks
    rw [← bigSep_sep', ← bigSep_sep', ← bigSep_hops]
    exact bigSep_congr fun i _ => by rw [bigSep_fin3]; rfl
  iintro HX
  imod (Rounds.fund ER (Rd (part m ρ)) ringCells ringToks) $$ HX with ⟨Hst, Hr, Hat, Htok⟩
  imodintro
  ihave Hst' := (Entails.of_eq (hX fun g => roundState ER (Rd (part m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The four semaphores the launch scopes; -/
theorem ownSems0_eq (c : Dev nD) : (Pipeline.ownSems0 (Ix := ℕ) (Name := ℕ) (U := UU) (Lvl := ℕ) (Val := Elt F) (τ := τ) osem c : sProp 𝕄)
    = iprop(semVal (sendC c 0) 0 ∗ semVal (sendC c 1) 0 ∗ semVal (recvC c 0) 0 ∗ semVal (recvC c 1) 0) := by
  rw [Pipeline.ownSems0_eq_of_list c osem [0, 1, 2, 3] (by decide) (by decide)]; rfl
/-- `ready` is the one it does not. -/
theorem unscopedSems0_eq (c : Dev nD) : (unscopedSems0 c : sProp 𝕄) = semVal (readyC c) 0 := by
  unfold unscopedSems0; rw [bigSep_eq_bigSepL_of_eq [SemLoc.reg readyS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, H0⟩
  isplitl [H0]; · iexact H0
  isplitl [H1]; · iexact H1
  isplitl [H2]; · iexact H2
  isplitl [H3]; · iexact H3
  iexact H4

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (part m ρ)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0)
        ∗ bigSep Finset.univ fun k : Fin 5 => roundState ER (Rd (part m ρ)) (kcell (c, k)) 0)
      ⊢ (|={Set.univ}=> bigSep Finset.univ fun k => iprop(∃ κ : ℕ, cellInv ER (Rd (part m ρ)) κ (kcell (c, k))) : sProp 𝕄) from by
        rw [← bigSep_sep']
        exact (bigSep_mono fun k _ => (Rounds.body_intro ER (Rd (part m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### Each device's share -/

variable (K : Dev nD × Fin 5 → ℕ)

theorem reached_send (P : Dev nD → S512x512.Idx → Elt F .f32) (c : Dev nD) (s : Fin 2) : records P K ⊢ reached ER (sendC c s) 0 := by
  rw [← kcell_send]; exact reached_at P K (c, kS s)
theorem reached_recv (P : Dev nD → S512x512.Idx → Elt F .f32) (c : Dev nD) (s : Fin 2) : records P K ⊢ reached ER (recvC c s) 0 := by
  rw [← kcell_recv]; exact reached_at P K (c, kR s)

/-- A device's positions, all at round 0. -/
def zeros (c : Dev nD) : sProp 𝕄 := bigSep Finset.univ fun k : Fin 5 => atPos ER (kcell (c, k)) 0 ∅ 0

theorem places_intro (P : Dev nD → S512x512.Idx → Elt F .f32) (c : Dev nD) : iprop(records P K ∗ zeros c) ⊢ places c 0 := by
  unfold zeros places
  rw [bigSep_fin5]
  iintro ⟨#HR, H0, H1, H2, H3, H4⟩
  isplitl [H0]; · iexact H0
  isplitl [H1]; · iexact H1
  isplitl [H2]; · iexact H2
  isplitl [H4]; · iexact H4
  isplitl [H3]; · iexact H3
  isplitr; · iapply (reached_send K P c (sl 0)); iexact HR
  isplitr; · iapply (reached_send K P c (sl 1)); iexact HR
  isplitr; · iapply (reached_recv K P c (sl 1)); iexact HR
  isplitr; · iapply (reached_recv K P c (sl 0)); iexact HR
  iapply (reached_at P K (prv c, 0)); iexact HR

theorem ghost_intro (c : Dev nD) : iprop(records (part m ρ) K ∗ zeros c ∗ payToks c) ⊢ G' m ρ c := by
  unfold G'
  iintro ⟨#HR, Hz, Ht⟩
  iexists K
  isplitr; · iexact HR
  isplitl [Hz]
  · iapply (places_intro K (part m ρ) c); isplitr; · iexact HR
    iexact Hz
  iexact Ht

/-- The tokens dealt around the ring: the `ready` ones to the right neighbour, the `recv` ones to the left one. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv ring.symm (fun c : Dev nD => (bigSep (Finset.Ico 0 31) (fun i => dutyTok ER (readyC c) i ()) : sProp 𝕄)),
    bigSep_univ_equiv ring (fun c : Dev nD => (bigSep (Finset.Ico 0 31) (fun i => dutyTok ER (recvC c (sl (i + 1))) (i / 2) ()) : sProp 𝕄))]
  exact BI.Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (part m ρ)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 5 => iprop(∃ κ : ℕ, cellInv ER (Rd (part m ρ)) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (Rd (part m ρ)) κ (kcell ck) : sProp 𝕄))) $$ HI
  icases HK with ⟨%K, #HI⟩
  ihave Htk := (toks_around (F := F)) $$ Htok
  iapply (bigSep_with_persistent (R := records (part m ρ) K) fun c _ => ghost_intro m ρ K c)
  isplitr
  · unfold records; isplitl; · iexact HI
    iexact HR
  · iapply (Entails.of_eq (bigSep_sep' Finset.univ (fun c : Dev nD => (zeros c : sProp 𝕄)) payToks).symm)
    isplitl [Hat]; · iexact Hat
    iexact Htk

/-- The global step: the semaphores of every device at once. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- What the devices owe at launch is, at device `c`, the credits of its own waits. -/
theorem creds (c : Dev nD) : (Pipeline.launchCred (owed 0) c : sProp 𝕄)
    ⊢ bigSep (Finset.Ico 0 31) fun i => iprop(cred (tallyAt (recvC c (sl (i + 1))) i N) ∗ cred (tallyAt (readyC c) i 1)) := by
  refine (Entails.of_eq (Pipeline.launchCred_sum (Finset.Ico 0 31) due c)).trans (bigSep_mono fun i _ => ?_)
  refine (Entails.of_eq (Pipeline.launchCred_add _ _ c)).trans ?_
  exact BI.sep_mono (Pipeline.launchCred_tallyAt (.dma (recvS (sl (i + 1)))) nxt prv nxt_prv prv_nxt i N c)
    (Pipeline.launchCred_tallyAt (.reg readyS) prv nxt prv_nxt nxt_prv i 1 c)

/-- The tokens and the credits are the fuel of the thirty-one hops. -/
theorem fuel_intro (c : Dev nD) :
    iprop(payToks c ∗ bigSep (Finset.Ico 0 31) fun i => iprop(cred (tallyAt (recvC c (sl (i + 1))) i N) ∗ cred (tallyAt (readyC c) i 1)))
      ⊢ (bigSep (Finset.Ico 0 31) (fuel c) : sProp 𝕄) := by
  unfold payToks fuel
  rw [bigSep_sep', bigSep_sep', bigSep_sep', bigSep_sep', bigSep_sep']
  iintro ⟨⟨H1, H2, H3⟩, H4, H5⟩
  isplitl [H1]; · iexact H1
  isplitl [H2]; · iexact H2
  isplitl [H3]; · iexact H3
  isplitl [H5]; · iexact H5
  iexact H4

/-! ### The side conditions of the launch -/

theorem start_intro (c : Dev nD) :
    iprop(Pipeline.unscopedRestP Pipeline.Prefetch.none cfg0.spec c (fun b => m ((c : Thread nD τ).loc b)) ∗ levAts L lv
        ∗ Pipeline.launchCred (owed 0) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  icases HG with ⟨%K, HR, Hp, Ht⟩
  isplitl
  · isplitl [HR]; · iexists K; iexact HR
    isplitl [Hlev]; · iexact Hlev
    isplitl [Hp]; · iexact Hp
    iapply (fuel_intro c)
    isplitl [Ht]; · iexact Ht
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨⟨%f, Hr⟩, HB, ⟨HS0, HS1⟩, HV0, HV1⟩
  isplitl [HB]; · iexact HB
  isplitl [HS0 HS1 HV0 HV1]
  · isplitl [HS0]; · iexact HS0
    isplitl [HS1]; · iexact HS1
    isplitl [HV0]; · iexact HV0
    iexact HV1
  iexists f; iexact Hr

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait_bottom c _ (fun h => by cases h) (by fin_cases w <;> fin_cases s <;> decide) 0 0 (by decide)
    · show _ ⊢ MayWait (c : Thread nD τ) _ 0 0
      iintro -
      rw [MayWait_zero]
      iempintro

/-! ### The run -/

/-- What the arrays of device `c` hold after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On the mesh of thirty-two devices, for any float values, from any memory with zero counters: every weakly fair execution
    terminates, with the arrays of every device at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed 0) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array holds after the run what it held before. -/
theorem finalA_in (c : Dev nD) (w : Fin cfg0.W) (hw : (cfg0.win w).isOut = false) :
    finalA m ρ c w = m ((cfg0.win w).arr.view.loc (c : Thread nD τ)) :=
  (dats m ρ 0 c).arrAt_in w hw _

/-- The result's array holds after the run the shared expert and the thirty-two partial sums. -/
theorem finalA_out (c : Dev nD) : finalA m ρ c (5 : Fin 6) = outAt m ρ c :=
  (dats m ρ 0 c).arrAt_eq_of_after_last (5 : Fin 6) t0_0 (by decide +kernel) _ fun j => by
    show outAt m ρ c _ = outAt m ρ c _
    congr 1

end Cert.KernelIdeal.Ring

end
-- ==== Proof.Reference.lean ====
/- The reference's run: what its result holds, in its own operations. -/
module

public import proofs.«01_k».proof.ReferenceIdeal
public import proofs.«01_k».proof.Proof.Gen.ReferenceIdeal
public import Idealize.ShloMosaic.PureOps.Ideal
public import Idealize.ShloMosaic.Lib.Claim

@[expose] public section

set_option maxRecDepth 65536

noncomputable section

namespace Cert.Proof.Reference

open Cert.ReferenceIdeal Cert.ReferenceIdeal.Facts Cert.ReferenceIdeal.Facts₀
open Idealize.ShloMosaic Idealize.SL.Sem

/-- The router's scores. -/
def scores (x : FVec Ideal S512x256 .f32) (r : FVec Ideal S256x128 .f32) : FVec Ideal S512x128 .f32 :=
  Host.dotGeneral dot_S512x256_S256x128_S512x128_1_0_0_1_n_n none x r

/-- Each row's entries less its greatest, exponentiated. -/
def lifted (s : FVec Ideal S512x128 .f32) : FVec Ideal S512x128 .f32 :=
  Host.exp (subf s (broadcastInDim S512x128 ![0, 1] bcast_S512x1_S512x128_0_1
    (broadcastInDim S512x1 ![0] bcast_S512_S512x1_0 (Host.reduce FloatOps.maximumf s (constant S_ .f32 0xFF800000#32) reducesTo_S512x128_S512_d1 h_S_))))

/-- Each row divided by its sum. -/
def normed (e : FVec Ideal S512x128 .f32) : FVec Ideal S512x128 .f32 :=
  Host.divf e (broadcastInDim S512x128 ![0, 1] bcast_S512x1_S512x128_0_1
    (broadcastInDim S512x1 ![0] bcast_S512_S512x1_0 (Host.reduceAdd e (constant S_ .f32 0x00000000#32) reducesTo_S512x128_S512_d1 h_S_)))

/-- The columns that the rows pick, counted from the end where negative. -/
def wrapped (i : IVec S512x1 32) : IVec S512x1 32 :=
  select (cmpi .slt i (broadcastInDim S512x1 ![] bcast_S_S512x1 (constantI S_ 32 0#32)))
    (addi i (broadcastInDim S512x1 ![] bcast_S_S512x1 (constantI S_ 32 128#32))) i

/-- The entry of each row in its column, or the word for an undefined one where there is no such column. -/
def picked (p : FVec Ideal S512x128 .f32) (i : IVec S512x1 32) : FVec Ideal S512x1 .f32 :=
  select (Host.reduce IntOp.andi
      (andi (cmpi .sge (shapeCast S512x1x1 (wrapped i) shapeCasts_S512x1_S512x1x1) (broadcastInDim S512x1x1 ![] bcast_S_S512x1x1 (constantI S_ 32 0#32)))
        (cmpi .sle (shapeCast S512x1x1 (wrapped i) shapeCasts_S512x1_S512x1x1)
          (broadcastInDim S512x1x1 ![0, 1, 2] bcast_S1x1x1_S512x1x1_0_1_2 (broadcastInDim S1x1x1 ![2] bcast_S1_S1x1x1_2 (constantI S1 32 127#32)))))
      (constantI S_ 1 1#1) reducesTo_S512x1x1_S512x1_d2 h_S_)
    (Host.gather gather_S512x128_S512x1x1_S512x1_n_1_0_0_1_2_11 p (shapeCast S512x1x1 (wrapped i) shapeCasts_S512x1_S512x1x1))
    (broadcastInDim S512x1 ![] bcast_S_S512x1 (constant S_ .f32 0x7FC00000#32))

/-- The experts that the rows pick, counted from the end where negative. -/
def chosen (i : IVec S512x1 32) : IVec S512x1 32 :=
  broadcastInDim S512x1 ![0] bcast_S512_S512x1_0
    (select (cmpi .slt (shapeCast S512 i shapeCasts_S512x1_S512) (broadcastInDim S512 ![] bcast_S_S512 (constantI S_ 32 0#32)))
      (addi (shapeCast S512 i shapeCasts_S512x1_S512) (broadcastInDim S512 ![] bcast_S_S512 (constantI S_ 32 128#32)))
      (shapeCast S512 i shapeCasts_S512x1_S512))

/-- Each row's product with its expert. -/
def routed (x : FVec Ideal S512x256 .f32) (i : IVec S512x1 32) (E : FVec Ideal S128x256x512 .f32) : FVec Ideal S512x512 .f32 :=
  Host.dotGeneral dot_S512x256_S512x256x512_S512x512_1_1_n_2_0_0 none x
    (Host.gather gather_S128x256x512_S512x1_S512x256x512_12_0_n_n_0_1_1256512 E (chosen i))

/-- The reference's result. -/
def out (x : FVec Ideal S512x256 .f32) (r : FVec Ideal S256x128 .f32) (i : IVec S512x1 32) (E : FVec Ideal S128x256x512 .f32)
    (s : FVec Ideal S256x512 .f32) : FVec Ideal S512x512 .f32 :=
  addf (Host.dotGeneral dot_S512x256_S256x512_S512x512_1_0_0_1_n_n none x s)
    (mulf (broadcastInDim S512x512 ![0, 1] bcast_S512x1_S512x512_0_1 (picked (normed (lifted (scores x r))) i)) (routed x i E))

/-- An array of the reference's one device. -/
abbrev at0 (m : (ℓ : Loc nD τ sig) → Buf (Elt Ideal) ℓ) (b : Ref sig .tc) := m (((0 : Dev nD).tc : Thread nD τ).loc b)

/-- The reference terminates, with its result at `out` of its arguments, and these as they were. -/
theorem run (m : (ℓ : Loc nD τ sig) → Buf (Elt Ideal) ℓ) (g : Dev nD → PrngReg) :
    θ_run (defs (F := Ideal)) (onTc (τ := τ) (main (F := Ideal))) ⟨m, fun _ => 0, g⟩ (fun r =>
      r.2.mem (((0 : Dev nD).tc : Thread nD τ).loc main_v23) = out (at0 m main_arg0) (at0 m main_arg1) (at0 m main_arg2) (at0 m main_arg3) (at0 m main_arg4)
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3)
      ∧ r.2.mem (((0 : Dev nD).tc : Thread nD τ).loc main_arg4) = m (((0 : Dev nD).tc : Thread nD τ).loc main_arg4)) := by
  hlo_run
  rfl

end Cert.Proof.Reference

end
-- ==== Proof.Frames.lean ====
/- The three programs run to the end, leave their arguments alone and every counter at zero. -/
module

public import proofs.«01_k».proof.Defs
public import proofs.«01_k».proof.Proof.Ideal.Launch
public import proofs.«01_k».proof.Proof.Raw.Launch
public import proofs.«01_k».proof.Proof.Reference
public import Idealize.ShloMosaic.Lib.Claim

@[expose] public section

set_option maxRecDepth 65536

noncomputable section

namespace Cert.Proof

open Idealize.ShloMosaic Idealize.SL.Sem

/-- The kernel at the machine's floats. -/
theorem kernel_quiescent : quiescent_Kernel := fun m g _ => by
  refine θ_run_mono (Kernel.Ring.run_main (F := Bits) m g) fun r h => ⟨fun c => ?_, h.2⟩
  have hw (w : Fin 6) := h.1 c w
  exact ⟨(hw (0 : Fin 6)).trans (Kernel.Ring.finalA_in m g c (0 : Fin 6) rfl), (hw (1 : Fin 6)).trans (Kernel.Ring.finalA_in m g c (1 : Fin 6) rfl),
    (hw (2 : Fin 6)).trans (Kernel.Ring.finalA_in m g c (2 : Fin 6) rfl), (hw (3 : Fin 6)).trans (Kernel.Ring.finalA_in m g c (3 : Fin 6) rfl),
    (hw (4 : Fin 6)).trans (Kernel.Ring.finalA_in m g c (4 : Fin 6) rfl)⟩

/-- The kernel over the extended reals, with the result that it leaves on every device. -/
theorem ideal_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r =>
      (∀ c : Dev KernelIdeal.nD,
        r.2.mem ((c.tc : Thread KernelIdeal.nD KernelIdeal.τ).loc KernelIdeal.main_v1) = KernelIdeal.Ring.outAt m g c
        ∧ r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3)
        ∧ r.2.mem ((c.tc : Thread KernelIdeal.nD KernelIdeal.τ).loc KernelIdeal.main_arg4) = m ((c.tc : Thread KernelIdeal.nD KernelIdeal.τ).loc KernelIdeal.main_arg4))
      ∧ r.2.sem = fun _ => 0) := by
  refine θ_run_mono (KernelIdeal.Ring.run_main (F := Ideal) m g) fun r h => ⟨fun c => ?_, h.2⟩
  have hw (w : Fin 6) := h.1 c w
  exact ⟨(hw (5 : Fin 6)).trans (KernelIdeal.Ring.finalA_out m g c),
    (hw (0 : Fin 6)).trans (KernelIdeal.Ring.finalA_in m g c (0 : Fin 6) rfl), (hw (1 : Fin 6)).trans (KernelIdeal.Ring.finalA_in m g c (1 : Fin 6) rfl),
    (hw (2 : Fin 6)).trans (KernelIdeal.Ring.finalA_in m g c (2 : Fin 6) rfl), (hw (3 : Fin 6)).trans (KernelIdeal.Ring.finalA_in m g c (3 : Fin 6) rfl),
    (hw (4 : Fin 6)).trans (KernelIdeal.Ring.finalA_in m g c (4 : Fin 6) rfl)⟩

/-- The kernel over the extended reals. -/
theorem ideal_quiescent : quiescent_KernelIdeal := fun m g _ =>
  θ_run_mono (ideal_run m g) fun r h => ⟨fun c => (h.1 c).2, h.2⟩

/-- The reference over the extended reals; it has no counter. -/
theorem reference_quiescent : quiescent_ReferenceIdeal := fun m g _ =>
  θ_run_mono (Reference.run m g) fun r h =>
    ⟨fun c => by obtain rfl := Subsingleton.elim c 0; exact h.2, sem_eq_zero_of_no_sems (by decide) r.2⟩

end Cert.Proof

end
-- ==== Proof.Algebra.lean ====
/- The mathematics over the extended reals: a weighting at most one, moved across a sum; a one-hot sum; a ring's sum. -/
module

public import Idealize.ShloMosaic.PureOps.Ideal
public import Mathlib.Data.EReal.Inv
public import Mathlib.Algebra.BigOperators.Fin

@[expose] public section

noncomputable section

namespace Cert.Proof.Algebra

open Idealize.ShloMosaic
open scoped BigOperators

/-- The words of the two infinities. -/
theorem minus_infinity : Ideal.ofBits .f32 0xFF800000#32 = ⊥ := by
  simp [Ideal.ofBits, Ideal.ieee]

theorem infinity : Ideal.ofBits .f32 0x7F800000#32 = ⊤ := by
  simp [Ideal.ofBits, Ideal.ieee]

/-- A nonnegative finite factor goes across a sum. -/
theorem mul_sum {ι : Type} (s : Finset ι) {p : EReal} (h0 : 0 ≤ p) (ht : p ≠ ⊤) (f : ι → EReal) :
    p * ∑ d ∈ s, f d = ∑ d ∈ s, p * f d := by
  classical
  induction s using Finset.induction_on with
  | empty => simp
  | insert a s ha ih => rw [Finset.sum_insert ha, Finset.sum_insert ha, EReal.left_distrib_of_nonneg_of_ne_top h0 ht, ih]

/-- Rows weighted before the product are products weighted after it. -/
theorem weighted {n : Nat} {p : EReal} (h0 : 0 ≤ p) (ht : p ≠ ⊤) (x w : Fin n → EReal) :
    ∑ d, x d * p * w d = p * ∑ d, x d * w d := by
  rw [mul_sum _ h0 ht]
  exact Finset.sum_congr rfl fun d _ => by rw [mul_comm (x d) p, mul_assoc]

/-- Rows weighted by zero come to zero. -/
theorem unweighted {n : Nat} (x w : Fin n → EReal) : ∑ d, x d * 0 * w d = 0 := by simp

/-- The greatest of a row: at most every one of the others, and one of them. -/
def peak {n : Nat} (s : Fin n → EReal) : EReal := (Finset.univ : Finset (Fin n)).fold max ⊥ s

theorem le_peak {n : Nat} (s : Fin n → EReal) (k : Fin n) : s k ≤ peak s :=
  (Finset.le_fold_max (s k)).2 (Or.inr ⟨k, Finset.mem_univ k, le_rfl⟩)

theorem exists_peak {n : Nat} (s : Fin n → EReal) (h : peak s ≠ ⊥) : ∃ k, s k = peak s := by
  have hle : peak s ≤ peak s := le_rfl
  rcases (Finset.le_fold_max (peak s)).1 hle with hb | ⟨k, -, hk⟩
  · exact absurd (le_bot_iff.1 hb) h
  · exact ⟨k, le_antisymm (le_peak s k) hk⟩

/-- The scores of a finite row against a finite matrix have a finite greatest. -/
theorem peak_finite {n k : Nat} (x : Fin n → EReal) (r : Fin n → Fin (k + 1) → EReal) (hx : ∀ d, x d ≠ ⊥ ∧ x d ≠ ⊤)
    (hr : ∀ d j, r d j ≠ ⊥ ∧ r d j ≠ ⊤) : peak (fun j => ∑ d, x d * r d j) ≠ ⊥ ∧ peak (fun j => ∑ d, x d * r d j) ≠ ⊤ := by
  have hs (j : Fin (k + 1)) : ∑ d, x d * r d j = ((∑ d, (x d).toReal * (r d j).toReal : ℝ) : EReal) := by
    refine .trans ?_ (map_sum (⟨⟨Real.toEReal, EReal.coe_zero⟩, EReal.coe_add⟩ : ℝ →+ EReal) _ _).symm
    refine Finset.sum_congr rfl fun d _ => ?_
    show _ = (((x d).toReal * (r d j).toReal : ℝ) : EReal)
    rw [EReal.coe_mul, EReal.coe_toReal (hx d).2 (hx d).1, EReal.coe_toReal (hr d j).2 (hr d j).1]
  have hb : peak (fun j => ∑ d, x d * r d j) ≠ ⊥ := fun h => by
    have := le_peak (fun j => ∑ d, x d * r d j) 0
    rw [h, hs] at this
    exact EReal.coe_ne_bot _ (le_bot_iff.1 this)
  obtain ⟨j, hj⟩ := exists_peak _ hb
  exact ⟨hb, fun h => EReal.coe_ne_top _ ((hs j).symm.trans (hj.trans h))⟩

theorem exp_nonneg (x : EReal) : 0 ≤ Ideal.exp x := by
  induction x with
  | bot => exact le_rfl
  | top => exact (le_top : (0 : EReal) ≤ ⊤)
  | coe r => exact EReal.coe_nonneg.2 (Real.exp_pos r).le

theorem exp_le_one {x : EReal} (h : x ≤ 0) : Ideal.exp x ≤ 1 := by
  induction x with
  | bot => exact zero_le_one
  | top => exact absurd h (by simp)
  | coe r =>
    have hr : r ≤ 0 := EReal.coe_nonpos.1 h
    show ((Real.exp r : ℝ) : EReal) ≤ 1
    exact_mod_cast (Real.exp_le_one_iff.2 hr)

/-- One entry of the softmax of a row. -/
def share {n : Nat} (s : Fin n → EReal) (k : Fin n) : EReal :=
  Ideal.div (Ideal.exp (s k - peak s)) (∑ j, Ideal.exp (s j - peak s))

/-- Where the row's greatest entry is finite, the sum of the exponentials is at least one. -/
theorem one_le_total {n : Nat} (s : Fin n → EReal) (hb : peak s ≠ ⊥) (ht : peak s ≠ ⊤) :
    1 ≤ ∑ j, Ideal.exp (s j - peak s) := by
  obtain ⟨k, hk⟩ := exists_peak s hb
  have h1 : Ideal.exp (s k - peak s) = 1 := by
    rw [hk, EReal.sub_self ht hb]
    show ((Real.exp 0 : ℝ) : EReal) = 1
    rw [Real.exp_zero]; rfl
  calc (1 : EReal) = Ideal.exp (s k - peak s) := h1.symm
    _ ≤ _ := Finset.single_le_sum (f := fun j => Ideal.exp (s j - peak s)) (fun j _ => exp_nonneg _) (Finset.mem_univ k)

theorem share_eq {n : Nat} (s : Fin n → EReal) (k : Fin n) (hb : peak s ≠ ⊥) (ht : peak s ≠ ⊤) :
    share s k = Ideal.exp (s k - peak s) * (∑ j, Ideal.exp (s j - peak s))⁻¹ :=
  if_neg (lt_of_lt_of_le zero_lt_one (one_le_total s hb ht)).ne'

/-- So an entry of the softmax is nonnegative … -/
theorem share_nonneg {n : Nat} (s : Fin n → EReal) (k : Fin n) (hb : peak s ≠ ⊥) (ht : peak s ≠ ⊤) : 0 ≤ share s k := by
  rw [share_eq s k hb ht]
  exact mul_nonneg (exp_nonneg _) (EReal.inv_nonneg_of_nonneg (zero_le_one.trans (one_le_total s hb ht)))

/-- … and finite. -/
theorem share_ne_top {n : Nat} (s : Fin n → EReal) (k : Fin n) (hb : peak s ≠ ⊥) (ht : peak s ≠ ⊤) : share s k ≠ ⊤ := by
  rw [share_eq s k hb ht]
  have hd := one_le_total s hb ht
  have he : Ideal.exp (s k - peak s) ≤ 1 := exp_le_one (EReal.sub_nonpos.2 (le_peak s k))
  have hi : (∑ j, Ideal.exp (s j - peak s))⁻¹ ≤ 1 := by
    induction hD : ∑ j, Ideal.exp (s j - peak s) with
    | bot => rw [hD] at hd; exact absurd (le_bot_iff.1 hd) (lt_of_lt_of_le EReal.bot_lt_zero zero_le_one).ne'
    | top => simp
    | coe r =>
      rw [hD] at hd
      have hr : (1 : ℝ) ≤ r := by exact_mod_cast hd
      rw [← EReal.coe_inv]
      exact_mod_cast inv_le_one_of_one_le₀ hr
  refine ne_of_lt (lt_of_le_of_lt ((mul_le_mul_of_nonneg_left hi (exp_nonneg _)).trans ?_) (EReal.coe_lt_top 1))
  rw [mul_one]
  exact he

/-- A row against the indicator of a column is its entry there. -/
theorem one_hot {n : Nat} (f g : Fin n → EReal) (e : Fin n) (h1 : g e = 1) (h0 : ∀ k, k ≠ e → g k = 0) :
    ∑ k, f k * g k = f e := by
  rw [Finset.sum_eq_single e (fun k _ hk => by rw [h0 k hk, mul_zero]) (fun h => absurd (Finset.mem_univ e) h), h1, mul_one]

end Cert.Proof.Algebra

end
-- ==== Proof.KernelValue.lean ====
/- What the kernel's device computes, at an entry, over the extended reals. -/
module

public import proofs.«01_k».proof.Proof.Ideal.Body
public import proofs.«01_k».proof.Proof.Algebra
public import Idealize.ShloMosaic.Lib.Pointwise
public import Idealize.ShloMosaic.Lib.Layout

@[expose] public section

set_option maxRecDepth 65536

noncomputable section

namespace Cert.KernelIdeal.Ring

open Cert.KernelIdeal Cert.KernelIdeal.Gen
open Idealize.ShloMosaic Idealize.ShloMosaic.Pointwise Idealize.SL.Sem
open Cert.Proof.Algebra
open scoped BigOperators

/-- The scores of a row. -/
def scoreRow (x : FVec Ideal S512x256 .f32) (r : FVec Ideal S256x128 .f32) (a : Fin 512) : Fin 128 → EReal :=
  fun k => ∑ d : Fin 256, x (ix2 a d) * r (ix2 d k)

/-- Two numbers below the device's experts, as words, are compared as numbers. -/
theorem eq_word {n k : Nat} (hn : n < 128) (hk : k < 128) :
    IntOp.cmpi .eq (BitVec.ofNat 32 n) (BitVec.ofNat 32 k) = if n = k then 1#1 else 0#1 := by
  split
  · next h => rw [h]; exact IntOp.cmpi_eq_self _
  · next h =>
    refine congrArg BitVec.ofBool (beq_false_of_ne fun hw => h ?_)
    have := congrArg BitVec.toNat hw
    simp only [BitVec.toNat_ofNat] at this
    omega

/-- The number of a device's expert, as the body computes it. -/
theorem expert_no (c : Dev nD) (j : Fin 4) :
    Scalar.addi (Scalar.muli (axisNo c) 4#32) (BitVec.ofNat 32 j.val) = BitVec.ofNat 32 (4 * c.val + j.val) := by
  revert c j
  decide

/-- The weighting of a row: the softmax of its scores, at the column that it names. -/
theorem weight_apply (x : FVec Ideal S512x256 .f32) (r : FVec Ideal S256x128 .f32) (ix : IVec S512x1 32) (a : Fin 512) (e : Fin 128)
    (he : ix (ix2 a 0) = BitVec.ofNat 32 e.val) :
    k0_pay4 (F := Ideal) x r ix (ix2 a 0) = share (scoreRow x r a) e := by
  pointwise [k0_pay4, k0_pay2, k0_pay3]
  rw [he, minus_infinity]
  refine one_hot _ _ e ?_ fun k hk => ?_
  · rw [eq_word e.isLt e.isLt, if_pos rfl]
    show (((1 : Int) : ℝ) : EReal) = 1
    simp
  · rw [eq_word k.isLt e.isLt, if_neg fun h => hk (Fin.ext h)]
    show (((0 : Int) : ℝ) : EReal) = 0
    simp

/-- The gate of expert `j` of a device: the weighting of the rows that name it. -/
def gate (c : Dev nD) (j : Fin 4) (e : Fin 128) (p : EReal) : EReal := if e.val = 4 * c.val + j.val then p else 0

theorem select_gate (c : Dev nD) (j : Fin 4) (e : Fin 128) (p : EReal) :
    Scalar.select (IntOp.cmpi .eq (BitVec.ofNat 32 e.val) (Scalar.addi (Scalar.muli (axisNo c) 4#32) (BitVec.ofNat 32 j.val))) p 0 = gate c j e p := by
  have hc : c.val < 32 := c.isLt
  rw [expert_no, eq_word e.isLt (by omega), gate]
  split <;> rfl

theorem select_mul (b : BitVec 1) (x p w : EReal) : Scalar.select b (x * p * w) 0 = x * Scalar.select b p 0 * w := by
  rcases BitVec.eq_zero_or_eq_one b with rfl | rfl
  · show (0 : EReal) = x * 0 * w
    simp
  · rfl

theorem expert_apply (j : Fin 4) (W : FVec Ideal S4x256x512 .f32) (d : Fin 256) (o : Fin 512) :
    expert (F := Ideal) j W (ix3 0 d o) = W (ix3 j d o) := by
  refine congrArg W (funext fun b => Fin.ext ?_)
  fin_cases b
  · show j.val + 1 * 0 = j.val
    omega
  · show 0 + 1 * d.val = d.val
    omega
  · show 0 + 1 * o.val = o.val
    omega

/-- The partial sum of a device at an entry: its four experts' products, each with its gated row. -/
theorem part_apply (c : Dev nD) (x : FVec Ideal S512x256 .f32) (r : FVec Ideal S256x128 .f32) (ix : IVec S512x1 32)
    (W : FVec Ideal S4x256x512 .f32) (a : Fin 512) (e : Fin 128) (he : ix (ix2 a 0) = BitVec.ofNat 32 e.val) (o : Fin 512) :
    k0_pay9 (F := Ideal) (three c x r ix W) (fourth c x r ix) (expert 3 W) (ix2 a o)
      = ∑ j : Fin 4, ∑ d : Fin 256, x (ix2 a d) * gate c j e (share (scoreRow x r a) e) * W (ix3 j d o) := by
  pointwise [k0_pay9, three, fourth, k0_pay7, k0_pay8, k0_pay5, k0_pay6, k0_pay2, k0_pay3]
  simp only [Fin.sum_univ_four, ← select_gate, he, weight_apply x r ix a e he, expert_apply, select_mul]
  rfl

theorem own_apply (x : FVec Ideal S512x256 .f32) (p : FVec Ideal S512x512 .f32) (q : FVec Ideal S512x256 .f32) (w : FVec Ideal S1x256x512 .f32)
    (s : FVec Ideal S256x512 .f32) (a : Fin 512) (o : Fin 512) :
    k0_pay10 (F := Ideal) (k0_pay2 x) p q w s (ix2 a o) = ∑ d : Fin 256, x (ix2 a d) * s (ix2 d o) + k0_pay9 (F := Ideal) p q w (ix2 a o) := by
  pointwise [k0_pay10, k0_pay2]

/-! ## The operands as staged are the device's arrays -/

variable (m : (ℓ : Loc nD τ sig) → Buf (Elt Ideal) ℓ) (ρ : Dev nD → PrngReg) (c : Dev nD)

theorem in_x : inX m ρ c = m ((c.tc : Thread nD τ).loc main_arg0) := by
  refine funext fun i => congrArg (m ((c.tc : Thread nD τ).loc main_arg0)) (funext fun b => Fin.ext ?_)
  fin_cases b
  · show 0 * 512 + 1 * (i 0).val = (i 0).val
    omega
  · show 0 * 256 + 1 * (i 1).val = (i 1).val
    omega

theorem in_r : inR m ρ c = m ((c.tc : Thread nD τ).loc main_arg1) := by
  refine funext fun i => congrArg (m ((c.tc : Thread nD τ).loc main_arg1)) (funext fun b => Fin.ext ?_)
  fin_cases b
  · show 0 * 256 + 1 * (i 0).val = (i 0).val
    omega
  · show 0 * 128 + 1 * (i 1).val = (i 1).val
    omega

theorem in_i : inI m ρ c = m ((c.tc : Thread nD τ).loc main_arg2) := by
  refine funext fun i => congrArg (m ((c.tc : Thread nD τ).loc main_arg2)) (funext fun b => Fin.ext ?_)
  fin_cases b
  · show 0 * 512 + 1 * (i 0).val = (i 0).val
    omega
  · show 0 * 1 + 1 * (i 1).val = (i 1).val
    omega

theorem in_e : inE m ρ c = m ((c.tc : Thread nD τ).loc main_arg3) := by
  refine funext fun i => congrArg (m ((c.tc : Thread nD τ).loc main_arg3)) (funext fun b => Fin.ext ?_)
  fin_cases b
  · show 0 * 4 + 1 * (i 0).val = (i 0).val
    omega
  · show 0 * 256 + 1 * (i 1).val = (i 1).val
    omega
  · show 0 * 512 + 1 * (i 2).val = (i 2).val
    omega

theorem in_s : inS m ρ c = m ((c.tc : Thread nD τ).loc main_arg4) := by
  refine funext fun i => congrArg (m ((c.tc : Thread nD τ).loc main_arg4)) (funext fun b => Fin.ext ?_)
  fin_cases b
  · show 0 * 256 + 1 * (i 0).val = (i 0).val
    omega
  · show 0 * 512 + 1 * (i 1).val = (i 1).val
    omega

/-! ## The ring's sum -/

/-- Some steps back along the ring, as a number. -/
theorem back_val (h : ℕ) (hh : h ≤ 32) : ((back h c).val + h) % 32 = c.val := by
  have hc : c.val < 32 := c.isLt
  induction h with
  | zero => exact Nat.mod_eq_of_lt hc
  | succ h ih =>
    have hs : back (h + 1) c = prv (back h c) := Function.iterate_succ_apply' _ _ _
    have hp : ∀ d : Dev nD, (prv d).val = (d.val + 31) % 32 := by decide
    have := ih (by omega)
    rw [hs, hp]
    omega

/-- The first thirty-two steps back along the ring pass every device once. -/
def around : Fin 32 ≃ Dev nD :=
  Equiv.ofBijective (fun h => back h.val c) ((Fintype.bijective_iff_injective_and_card _).2 ⟨fun h h' e => Fin.ext (by
    have e : back h.val c = back h'.val c := e
    have h1 := back_val c h.val h.isLt.le
    have h2 := back_val c h'.val h'.isLt.le
    rw [← e] at h2
    have := h.isLt
    have := h'.isLt
    omega), rfl⟩)

theorem acc_apply (P : Dev nD → Vec Ideal S512x512 .f32) (A : Vec Ideal S512x512 .f32) (i : S512x512.Idx) (n : ℕ) :
    acc (F := Ideal) P c A n i = A i + ∑ h ∈ Finset.range n, (P (back (h + 1) c) i : EReal) := by
  induction n with
  | zero => exact (add_zero (A i)).symm
  | succ n ih =>
    rw [Finset.sum_range_succ, ← add_assoc]
    show acc (F := Ideal) P c A n i + _ = _
    rw [ih]

/-- What a device has, and what comes to it in thirty-one hops, is what all have. -/
theorem ring_sum (f : Dev nD → EReal) : f c + ∑ h ∈ Finset.range 31, f (back (h + 1) c) = ∑ c', f c' := by
  rw [← Equiv.sum_comp (around c), Fin.sum_univ_succ, ← Fin.sum_univ_eq_sum_range (fun h => f (back (h + 1) c)) 31]
  rfl

/-- The result of a device at an entry: the shared expert, and every expert of every device with its gated row. -/
theorem out_apply (x : FVec Ideal S512x256 .f32) (r : FVec Ideal S256x128 .f32) (ix : IVec S512x1 32)
    (W : Dev nD → FVec Ideal S4x256x512 .f32) (s : FVec Ideal S256x512 .f32)
    (hx : ∀ c, inX m ρ c = x) (hr : ∀ c, inR m ρ c = r) (hi : ∀ c, inI m ρ c = ix) (hW : ∀ c, inE m ρ c = W c) (hs : ∀ c, inS m ρ c = s)
    (a : Fin 512) (e : Fin 128) (he : ix (ix2 a 0) = BitVec.ofNat 32 e.val) (o : Fin 512) :
    (outAt m ρ c (ix2 a o) : EReal) = ∑ d : Fin 256, x (ix2 a d) * s (ix2 d o)
      + ∑ c' : Dev nD, ∑ j : Fin 4, ∑ d : Fin 256, x (ix2 a d) * gate c' j e (share (scoreRow x r a) e) * W c' (ix3 j d o) := by
  have hpart : ∀ c', (part m ρ c' (ix2 a o) : EReal)
      = ∑ j : Fin 4, ∑ d : Fin 256, x (ix2 a d) * gate c' j e (share (scoreRow x r a) e) * W c' (ix3 j d o) := fun c' => by
    rw [part, hx, hr, hi, hW]
    exact part_apply c' x r ix (W c') a e he o
  have hown : (own m ρ c (ix2 a o) : EReal) = ∑ d : Fin 256, x (ix2 a d) * s (ix2 d o) + part m ρ c (ix2 a o) := by
    rw [own, part, hx, hs]
    exact own_apply x _ _ _ s a o
  have hout : (outAt m ρ c (ix2 a o) : EReal) = own m ρ c (ix2 a o) + ∑ h ∈ Finset.range 31, (part m ρ (back (h + 1) c) (ix2 a o) : EReal) :=
    acc_apply c (part m ρ) (own m ρ c) (ix2 a o) 31
  refine hout.trans ?_
  rw [hown, add_assoc]
  refine congrArg (∑ d : Fin 256, x (ix2 a d) * s (ix2 d o) + ·) ?_
  exact (ring_sum c fun c' => (part m ρ c' (ix2 a o) : EReal)).trans (Finset.sum_congr rfl fun c' _ => hpart c')

end Cert.KernelIdeal.Ring

end
-- ==== Proof.ReferenceValue.lean ====
/- What the reference computes, at an entry, over the extended reals. -/
module

public import proofs.«01_k».proof.Proof.Reference
public import proofs.«01_k».proof.Proof.Algebra
public import Idealize.ShloMosaic.Lib.Pointwise
public import Idealize.ShloMosaic.Lib.WordCmp

@[expose] public section

set_option maxRecDepth 65536

noncomputable section

namespace Cert.Proof.Reference

open Cert.ReferenceIdeal Cert.ReferenceIdeal.Facts Cert.ReferenceIdeal.Facts₀
open Idealize.ShloMosaic Idealize.ShloMosaic.Pointwise Idealize.SL.Sem
open Cert.Proof.Algebra
open scoped BigOperators

/-- The softmax of a row. -/
theorem normed_apply (x : FVec Ideal S512x256 .f32) (r : FVec Ideal S256x128 .f32) (a : Fin 512) (k : Fin 128) :
    normed (lifted (scores x r)) (ix2 a k) = share (fun k => ∑ d : Fin 256, x (ix2 a d) * r (ix2 d k)) k := by
  pointwise [normed, lifted, scores]
  rw [minus_infinity]
  rfl

/-- A column in range is not counted from the end … -/
theorem unwrapped : ∀ e : Fin 128, Scalar.select (IntOp.cmpi .slt (BitVec.ofNat 32 e.val) 0#32) (IntOp.addi (BitVec.ofNat 32 e.val) 128#32)
    (BitVec.ofNat 32 e.val) = BitVec.ofNat 32 e.val := by decide

/-- … and is one of the row's. -/
theorem in_range : ∀ e : Fin 128, IntOp.andi (IntOp.cmpi .sge (BitVec.ofNat 32 e.val) 0#32) (IntOp.cmpi .sle (BitVec.ofNat 32 e.val) 127#32) = 1#1 := by
  decide

/-- Read signed it is itself, and no clamp moves it. -/
theorem unclamped : ∀ e : Fin 128, min (BitVec.ofNat 32 e.val).toInt.toNat 127 = e.val := by decide

theorem wrapped_apply (i : IVec S512x1 32) (a : Fin 512) (e : Fin 128) (he : i (ix2 a 0) = BitVec.ofNat 32 e.val) :
    wrapped i (ix2 a 0) = BitVec.ofNat 32 e.val := by
  pointwise [wrapped]
  rw [he, unwrapped]

theorem chosen_apply (i : IVec S512x1 32) (a : Fin 512) (e : Fin 128) (he : i (ix2 a 0) = BitVec.ofNat 32 e.val) :
    chosen i (ix2 a 0) = BitVec.ofNat 32 e.val := by
  pointwise [chosen]
  rw [he, unwrapped]

/-- A row's entry at the column that the row's word names, clamped to the columns there are. -/
theorem entry_apply (p : FVec Ideal S512x128 .f32) (i : IVec S512x1x1 32) (a : Fin 512) (e : Fin 128) (he : i (ix3 a 0 0) = BitVec.ofNat 32 e.val) :
    Host.gather gather_S512x128_S512x1x1_S512x1_n_1_0_0_1_2_11 p i (ix2 a 0) = p (ix2 a e) := by
  have hi : gather_S512x128_S512x1x1_S512x1_n_1_0_0_1_2_11.siIdx (ix2 a 0) ⟨0, by decide⟩ = ix3 a 0 0 := by
    funext b
    fin_cases b <;> rfl
  refine congrArg p (funext fun b => Fin.ext ?_)
  fin_cases b
  · show 0 + a.val + 0 = a.val
    omega
  · show min (i (gather_S512x128_S512x1x1_S512x1_n_1_0_0_1_2_11.siIdx (ix2 a 0) ⟨0, by decide⟩)).toInt.toNat 127 + 0 + 0 = e.val
    rw [hi, he, unclamped]
    omega

theorem picked_apply (p : FVec Ideal S512x128 .f32) (i : IVec S512x1 32) (a : Fin 512) (e : Fin 128) (he : i (ix2 a 0) = BitVec.ofNat 32 e.val) :
    picked p i (ix2 a 0) = p (ix2 a e) := by
  have hw : shapeCast S512x1x1 (wrapped i) shapeCasts_S512x1_S512x1x1 (ix3 a 0 0) = BitVec.ofNat 32 e.val := by
    pointwise
    exact wrapped_apply i a e he
  have hg := entry_apply p (shapeCast S512x1x1 (wrapped i) shapeCasts_S512x1_S512x1x1) a e hw
  pointwise [picked]
  rw [hg, wrapped_apply i a e he, in_range]
  rfl

/-- An expert's entry, at the expert that the row's word names, clamped to the experts there are. -/
theorem expert_apply (E : FVec Ideal S128x256x512 .f32) (i : IVec S512x1 32) (a : Fin 512) (e : Fin 128) (he : i (ix2 a 0) = BitVec.ofNat 32 e.val)
    (d : Fin 256) (o : Fin 512) :
    Host.gather gather_S128x256x512_S512x1_S512x256x512_12_0_n_n_0_1_1256512 E i (ix3 a d o) = E (ix3 e d o) := by
  have hi : gather_S128x256x512_S512x1_S512x256x512_12_0_n_n_0_1_1256512.siIdx (ix3 a d o) ⟨0, by decide⟩ = ix2 a 0 := by
    funext b
    fin_cases b <;> rfl
  refine congrArg E (funext fun b => Fin.ext ?_)
  fin_cases b
  · show min (i (gather_S128x256x512_S512x1_S512x256x512_12_0_n_n_0_1_1256512.siIdx (ix3 a d o) ⟨0, by decide⟩)).toInt.toNat 127 + 0 + 0 = e.val
    rw [hi, he, unclamped]
    omega
  · show 0 + 0 + d.val = d.val
    omega
  · show 0 + 0 + o.val = o.val
    omega

theorem routed_apply (x : FVec Ideal S512x256 .f32) (i : IVec S512x1 32) (E : FVec Ideal S128x256x512 .f32)
    (a : Fin 512) (e : Fin 128) (he : i (ix2 a 0) = BitVec.ofNat 32 e.val) (o : Fin 512) :
    routed x i E (ix2 a o) = ∑ d : Fin 256, x (ix2 a d) * E (ix3 e d o) := by
  pointwise [routed]
  exact Finset.sum_congr rfl fun d _ => congrArg (x (ix2 a d) * ·) (expert_apply E (chosen i) a e (chosen_apply i a e he) d o)

/-- The reference's result at an entry: the shared expert, and the weighted product of the expert that the row names. -/
theorem out_apply (x : FVec Ideal S512x256 .f32) (r : FVec Ideal S256x128 .f32) (i : IVec S512x1 32) (E : FVec Ideal S128x256x512 .f32)
    (s : FVec Ideal S256x512 .f32) (a : Fin 512) (e : Fin 128) (he : i (ix2 a 0) = BitVec.ofNat 32 e.val) (o : Fin 512) :
    out x r i E s (ix2 a o) = ∑ d : Fin 256, x (ix2 a d) * s (ix2 d o)
      + share (fun k => ∑ d : Fin 256, x (ix2 a d) * r (ix2 d k)) e * ∑ d : Fin 256, x (ix2 a d) * E (ix3 e d o) := by
  pointwise [out]
  rw [picked_apply _ i a e he, normed_apply, routed_apply x i E a e he]

end Cert.Proof.Reference

end
-- ==== Proof.Condition.lean ====
/- What the condition on the arguments says of a row: the expert that it names is one of the experts, its greatest score is finite. -/
module

public import proofs.«01_k».proof.Pre_valid_rows_KernelIdeal
public import proofs.«01_k».proof.Proof.Algebra
public import Idealize.ShloMosaic.Lib.Pointwise
public import Idealize.ShloMosaic.Lib.WordCmp

@[expose] public section

set_option maxRecDepth 65536

noncomputable section

namespace Cert.Proof.Condition

open Cert.Pre_valid_rows_KernelIdeal
open Idealize.ShloMosaic Idealize.ShloMosaic.Pointwise
open Cert.Proof.Algebra
open scoped BigOperators

/-- The shape relations of the condition's operations hold. -/
theorem facts : Cert.Pre_valid_rows_KernelIdeal.Facts := ⟨by decide, by decide, by decide, by decide, by decide⟩

/-- Two conditions hold together where both do. -/
theorem andi_one : ∀ b c : BitVec 1, IntOp.andi b c = 1#1 → b = 1#1 ∧ c = 1#1 := by decide

variable [Cert.Pre_valid_rows_KernelIdeal.Facts]

/-- The condition at a row. -/
theorem row (x : FVec Ideal S512x256 .f32) (r : FVec Ideal S256x128 .f32) (i : IVec S512x1 32) (E : FVec Ideal S4x256x512 .f32) (s : FVec Ideal S256x512 .f32)
    (h : fn (F := Ideal) x r i E s = fun _ => 1#1) (a : Fin 512) :
    (∃ e : Fin 128, i (ix2 a 0) = BitVec.ofNat 32 e.val)
      ∧ peak (fun k : Fin 128 => ∑ d : Fin 256, x (ix2 a d) * r (ix2 d k)) ≠ ⊥ ∧ peak (fun k : Fin 128 => ∑ d : Fin 256, x (ix2 a d) * r (ix2 d k)) ≠ ⊤ := by
  have ha := congrFun h (ix2 a 0)
  revert ha
  pointwise [fn]
  rw [minus_infinity, infinity]
  intro ha
  obtain ⟨hi, hf⟩ := andi_one _ _ ha
  rw [WordCmp.ofBool_decide_eq_one_iff] at hf
  have hn : (i (ix2 a 0)).toNat < 128 := by
    revert hi
    word_cmp
  refine ⟨⟨⟨(i (ix2 a 0)).toNat, hn⟩, ((BitVec.ofNat_toNat 32 _).trans (BitVec.setWidth_eq _)).symm⟩, fun hb => ?_, fun ht => ?_⟩
  · exact absurd ((le_max_right _ _).trans_lt hf) (by rw [show Finset.fold max ⊥ _ Finset.univ = (⊥ : EReal) from hb]; simp)
  · exact absurd ((le_max_left _ _).trans_lt hf) (by rw [show Finset.fold max ⊥ _ Finset.univ = (⊤ : EReal) from ht]; simp)

end Cert.Proof.Condition

end
-- ==== Proof.Value.lean ====
/- The kernel's result is the reference's, on every device. -/
module

public import proofs.«01_k».proof.Proof.Frames
public import proofs.«01_k».proof.Proof.KernelValue
public import proofs.«01_k».proof.Proof.ReferenceValue
public import proofs.«01_k».proof.Proof.Condition

@[expose] public section

set_option maxRecDepth 65536

noncomputable section

namespace Cert.Proof

open Idealize.ShloMosaic Idealize.ShloMosaic.Pointwise Idealize.SL.Sem
open Cert.Proof.Algebra
open scoped BigOperators

/-- Of all the devices' experts one is named: the sum over them is its term. -/
theorem named (e : Fin 128) (f : Fin 32 → Fin 4 → EReal) (h : ∀ c j, e.val ≠ 4 * c.val + j.val → f c j = 0) :
    ∑ c, ∑ j, f c j = f ⟨e.val / 4, by omega⟩ ⟨e.val % 4, by omega⟩ := by
  rw [Finset.sum_eq_single ⟨e.val / 4, by omega⟩, Finset.sum_eq_single ⟨e.val % 4, by omega⟩]
  · exact fun j _ hj => h _ _ fun he => hj (Fin.ext (by show j.val = e.val % 4; simp only at he; omega))
  · exact fun hn => absurd (Finset.mem_univ _) hn
  · exact fun c _ hc => Finset.sum_eq_zero fun j _ => h _ _ fun he => hc (Fin.ext (by show c.val = e.val / 4; omega))
  · exact fun hn => absurd (Finset.mem_univ _) hn

/-- An expert of a device is one of all. -/
theorem block_apply (E : FVec Ideal ⟨3, ![128, 256, 512]⟩ .f32) (e : Fin 128) (d : Fin 256) (o : Fin 512) :
    Layout.block ⟨3, ![4, 256, 512]⟩ ⟨3, ![128, 256, 512]⟩ 0 32 (⟨e.val / 4, by omega⟩ : Fin 32) E (by decide) (ix3 (⟨e.val % 4, by omega⟩ : Fin 4) d o) = E (ix3 e d o) := by
  refine congrArg E (funext fun b => Fin.ext ?_)
  fin_cases b
  · show e.val / 4 * 4 + e.val % 4 = e.val
    omega
  · rfl
  · rfl

/-- Where the rows' words name experts and the greatest scores are finite, the results agree. -/
theorem agree [Cert.Pre_valid_rows_KernelIdeal.Facts]
    (m : (ℓ : Loc KernelIdeal.nD KernelIdeal.τ KernelIdeal.sig) → Buf (Elt Ideal) ℓ) (g : Dev KernelIdeal.nD → PrngReg)
    (x : FVec Ideal ⟨2, ![512, 256]⟩ .f32) (r : FVec Ideal ⟨2, ![256, 128]⟩ .f32) (i : IVec ⟨2, ![512, 1]⟩ 32)
    (E : FVec Ideal ⟨3, ![128, 256, 512]⟩ .f32) (s : FVec Ideal ⟨2, ![256, 512]⟩ .f32)
    (hx : ∀ c : Dev KernelIdeal.nD, m ((c.tc : Thread KernelIdeal.nD KernelIdeal.τ).loc KernelIdeal.main_arg0) = x)
    (hr : ∀ c : Dev KernelIdeal.nD, m ((c.tc : Thread KernelIdeal.nD KernelIdeal.τ).loc KernelIdeal.main_arg1) = r)
    (hi : ∀ c : Dev KernelIdeal.nD, m ((c.tc : Thread KernelIdeal.nD KernelIdeal.τ).loc KernelIdeal.main_arg2) = i)
    (hE : ∀ c : Dev KernelIdeal.nD, m ((c.tc : Thread KernelIdeal.nD KernelIdeal.τ).loc KernelIdeal.main_arg3)
      = Layout.block ⟨3, ![4, 256, 512]⟩ ⟨3, ![128, 256, 512]⟩ 0 32 c E)
    (hs : ∀ c : Dev KernelIdeal.nD, m ((c.tc : Thread KernelIdeal.nD KernelIdeal.τ).loc KernelIdeal.main_arg4) = s)
    (hrow : ∀ a : Fin 512, (∃ e : Fin 128, i (ix2 a 0) = BitVec.ofNat 32 e.val)
      ∧ peak (fun k : Fin 128 => ∑ d : Fin 256, x (ix2 a d) * r (ix2 d k)) ≠ ⊥ ∧ peak (fun k : Fin 128 => ∑ d : Fin 256, x (ix2 a d) * r (ix2 d k)) ≠ ⊤)
    (c : Dev KernelIdeal.nD) : KernelIdeal.Ring.outAt m g c = Reference.out x r i E s := by
  funext q
  obtain ⟨a, o, rfl⟩ : ∃ (a : Fin 512) (o : Fin 512), q = ix2 a o := ⟨q 0, q 1, eq_ix2 q⟩
  obtain ⟨⟨e, he⟩, hb, ht⟩ := hrow a
  refine (KernelIdeal.Ring.out_apply m g c x r i (fun c => Layout.block ⟨3, ![4, 256, 512]⟩ ⟨3, ![128, 256, 512]⟩ 0 32 c E) s
    (fun c => (KernelIdeal.Ring.in_x m g c).trans (hx c)) (fun c => (KernelIdeal.Ring.in_r m g c).trans (hr c))
    (fun c => (KernelIdeal.Ring.in_i m g c).trans (hi c)) (fun c => (KernelIdeal.Ring.in_e m g c).trans (hE c))
    (fun c => (KernelIdeal.Ring.in_s m g c).trans (hs c)) a e he o).trans ?_
  refine Eq.trans ?_ (Reference.out_apply x r i E s a e he o).symm
  refine congrArg (∑ d : Fin 256, x (ix2 a d) * s (ix2 d o) + ·) ?_
  rw [← weighted (share_nonneg _ e hb ht) (share_ne_top _ e hb ht) (fun d => x (ix2 a d)) (fun d => E (ix3 e d o))]
  refine (named e _ fun c j hne => ?_).trans ?_
  · simp only [KernelIdeal.Ring.gate, if_neg hne]
    exact unweighted _ _
  · refine Finset.sum_congr rfl fun d _ => ?_
    rw [block_apply E e d o]
    simp only [KernelIdeal.Ring.gate]
    rw [if_pos (by omega)]
    rfl

/-- The algebraic claim. -/
theorem algebraic [hPre : Cert.Pre_valid_rows_KernelIdeal.Facts] : algebraic_KernelIdeal_ReferenceIdeal_pre_valid_rows_KernelIdeal := fun m g m' g' hpre hin => by
  refine ⟨Reference.out (Reference.at0 m' ReferenceIdeal.main_arg0) (Reference.at0 m' ReferenceIdeal.main_arg1) (Reference.at0 m' ReferenceIdeal.main_arg2)
    (Reference.at0 m' ReferenceIdeal.main_arg3) (Reference.at0 m' ReferenceIdeal.main_arg4), ?_, Reference.run m' g'⟩
  refine θ_run_mono (ideal_run m g) fun r h c => ⟨(h.1 c).1.trans ?_, (h.1 c).2⟩
  refine agree m g _ _ _ _ _ (fun c => (hin c).1) (fun c => (hin c).2.1) (fun c => (hin c).2.2.1) (fun c => (hin c).2.2.2.1) (fun c => (hin c).2.2.2.2)
    (fun a => ?_) c
  have := Condition.row _ _ _ _ _ (hpre 0) a
  rw [(hin 0).1, (hin 0).2.1, (hin 0).2.2.1] at this
  exact this

end Cert.Proof

end
-- ==== Proof.lean ====
module

public import proofs.«01_k».proof.Defs
public import proofs.«01_k».proof.Proof.Frames
public import proofs.«01_k».proof.Proof.Value

@[expose] public section

noncomputable section

namespace Cert.Proof

open Idealize.ShloMosaic Idealize.SL.Sem

/-- The shape relations of the condition over the reference's arrays hold. -/
theorem reference_facts : Cert.Pre_valid_rows_ReferenceIdeal.Facts := ⟨by decide, by decide, by decide, by decide, by decide⟩

theorem claim : Cert.Claim :=
  ⟨Cert.Kernel.Gen.facts, Cert.KernelIdeal.Gen.facts, Cert.ReferenceIdeal.Gen.facts, Condition.facts, reference_facts,
    kernel_quiescent, ideal_quiescent, fun m g _ => ideal_quiescent m g trivial, reference_quiescent,
    fun m g _ => reference_quiescent m g trivial, trivial, algebraic (hPre := Condition.facts)⟩

end Cert.Proof

end
